-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x256 : Shape := ⟨3, ![2, 4096, 256]⟩
abbrev S8x512x1024 : Shape := ⟨3, ![8, 512, 1024]⟩
abbrev S2 : Shape := ⟨1, ![2]⟩
abbrev S8x4 : Shape := ⟨2, ![8, 4]⟩
abbrev S_ : Shape := ⟨0, ![]⟩
abbrev S1 : Shape := ⟨1, ![1]⟩
abbrev S1x4096x256 : Shape := ⟨3, ![1, 4096, 256]⟩
abbrev S4096x256 : Shape := ⟨2, ![4096, 256]⟩
abbrev S512x256 : Shape := ⟨2, ![512, 256]⟩
abbrev S1x512x256 : Shape := ⟨3, ![1, 512, 256]⟩
abbrev S1x1 : Shape := ⟨2, ![1, 1]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S512x4096, .bf16⟩
  | .local _ .vmem, ⟨3, _⟩ => ⟨S2x4096x256, .f32⟩
  | .local _ .vmem, ⟨4, _⟩ => ⟨S8x512x1024, .bf16⟩
  | .local _ .vmem, ⟨5, _⟩ => ⟨S8x512x1024, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_67 : BitVec 32) (c0_i32_74 : BitVec 32) : Fin 2 → Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  let c1024_i32 : BitVec 32 := 1024#32
  let v112 : BitVec 32 := Scalar.muli v111 c1024_i32
  let v113 : BitVec 32 := Scalar.addi v112 c0_i32_74
  ![0, v113.toNat]
def k0_dev8 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v164 : BitVec 32 := Scalar.addi v2 c1_i32_114
  let c8_i32_115 : BitVec 32 := 8#32
  let c0_i32_116 : BitVec 32 := 0#32
  let v165 : BitVec 1 := Scalar.cmpi .eq c8_i32_115 c0_i32_116
  let c1_i32_117 : BitVec 32 := 1#32
  let v166 : BitVec 32 := Scalar.select v165 c1_i32_117 c8_i32_115
  let v167 : BitVec 32 := Scalar.remsi v164 v166
  let c0_i32_119 : BitVec 32 := 0#32
  let v169 : BitVec 1 := Scalar.cmpi .slt v167 c0_i32_119
  let c0_i32_120 : BitVec 32 := 0#32
  let v170 : BitVec 1 := Scalar.cmpi .slt v166 c0_i32_120
  let v171 : BitVec 1 := Scalar.xori v169 v170
  let c0_i32_118 : BitVec 32 := 0#32
  let v168 : BitVec 1 := Scalar.cmpi .ne v167 c0_i32_118
  let v172 : BitVec 1 := Scalar.andi v171 v168
  let v173 : BitVec 32 := Scalar.addi v167 v166
  let v174 : BitVec 32 := Scalar.select v172 v173 v167
  let c1_i32_127 : BitVec 32 := 1#32
  let v175 : BitVec 32 := Scalar.muli v174 c1_i32_127
  let v176 : BitVec 32 := Scalar.addi c0_i32_128 v175
  v176.toNat
def k0_dev9 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_168 : BitVec 32 := 1#32
  let v230 : BitVec 32 := Scalar.addi v2 c1_i32_168
  let c8_i32_169 : BitVec 32 := 8#32
  let c0_i32_170 : BitVec 32 := 0#32
  let v231 : BitVec 1 := Scalar.cmpi .eq c8_i32_169 c0_i32_170
  let c1_i32_171 : BitVec 32 := 1#32
  let v232 : BitVec 32 := Scalar.select v231 c1_i32_171 c8_i32_169
  let v233 : BitVec 32 := Scalar.remsi v230 v232
  let c0_i32_173 : BitVec 32 := 0#32
  let v235 : BitVec 1 := Scalar.cmpi .slt v233 c0_i32_173
  let c0_i32_174 : BitVec 32 := 0#32
  let v236 : BitVec 1 := Scalar.cmpi .slt v232 c0_i32_174
  let v237 : BitVec 1 := Scalar.xori v235 v236
  let c0_i32_172 : BitVec 32 := 0#32
  let v234 : BitVec 1 := Scalar.cmpi .ne v233 c0_i32_172
  let v238 : BitVec 1 := Scalar.andi v237 v234
  let v239 : BitVec 32 := Scalar.addi v233 v232
  let v240 : BitVec 32 := Scalar.select v238 v239 v233
  let c1_i32_181 : BitVec 32 := 1#32
  let v241 : BitVec 32 := Scalar.muli v240 c1_i32_181
  let v242 : BitVec 32 := Scalar.addi c0_i32_182 v241
  v242.toNat
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_222 : BitVec 32 := 1#32
  let v296 : BitVec 32 := Scalar.addi v2 c1_i32_222
  let c8_i32_223 : BitVec 32 := 8#32
  let c0_i32_224 : BitVec 32 := 0#32
  let v297 : BitVec 1 := Scalar.cmpi .eq c8_i32_223 c0_i32_224
  let c1_i32_225 : BitVec 32 := 1#32
  let v298 : BitVec 32 := Scalar.select v297 c1_i32_225 c8_i32_223
  let v299 : BitVec 32 := Scalar.remsi v296 v298
  let c0_i32_227 : BitVec 32 := 0#32
  let v301 : BitVec 1 := Scalar.cmpi .slt v299 c0_i32_227
  let c0_i32_228 : BitVec 32 := 0#32
  let v302 : BitVec 1 := Scalar.cmpi .slt v298 c0_i32_228
  let v303 : BitVec 1 := Scalar.xori v301 v302
  let c0_i32_226 : BitVec 32 := 0#32
  let v300 : BitVec 1 := Scalar.cmpi .ne v299 c0_i32_226
  let v304 : BitVec 1 := Scalar.andi v303 v300
  let v305 : BitVec 32 := Scalar.addi v299 v298
  let v306 : BitVec 32 := Scalar.select v304 v305 v299
  let c1_i32_235 : BitVec 32 := 1#32
  let v307 : BitVec 32 := Scalar.muli v306 c1_i32_235
  let v308 : BitVec 32 := Scalar.addi c0_i32_236 v307
  v308.toNat
def k0_dev11 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_277 : BitVec 32 := 1#32
  let v362 : BitVec 32 := Scalar.addi v2 c1_i32_277
  let c8_i32_278 : BitVec 32 := 8#32
  let c0_i32_279 : BitVec 32 := 0#32
  let v363 : BitVec 1 := Scalar.cmpi .eq c8_i32_278 c0_i32_279
  let c1_i32_280 : BitVec 32 := 1#32
  let v364 : BitVec 32 := Scalar.select v363 c1_i32_280 c8_i32_278
  let v365 : BitVec 32 := Scalar.remsi v362 v364
  let c0_i32_282 : BitVec 32 := 0#32
  let v367 : BitVec 1 := Scalar.cmpi .slt v365 c0_i32_282
  let c0_i32_283 : BitVec 32 := 0#32
  let v368 : BitVec 1 := Scalar.cmpi .slt v364 c0_i32_283
  let v369 : BitVec 1 := Scalar.xori v367 v368
  let c0_i32_281 : BitVec 32 := 0#32
  let v366 : BitVec 1 := Scalar.cmpi .ne v365 c0_i32_281
  let v370 : BitVec 1 := Scalar.andi v369 v366
  let v371 : BitVec 32 := Scalar.addi v365 v364
  let v372 : BitVec 32 := Scalar.select v370 v371 v365
  let c1_i32_290 : BitVec 32 := 1#32
  let v373 : BitVec 32 := Scalar.muli v372 c1_i32_290
  let v374 : BitVec 32 := Scalar.addi c0_i32_291 v373
  v374.toNat
def k0_dev12 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_332 : BitVec 32 := 2#32
  let v428 : BitVec 32 := Scalar.addi v2 c2_i32_332
  let c8_i32_333 : BitVec 32 := 8#32
  let c0_i32_334 : BitVec 32 := 0#32
  let v429 : BitVec 1 := Scalar.cmpi .eq c8_i32_333 c0_i32_334
  let c1_i32_335 : BitVec 32 := 1#32
  let v430 : BitVec 32 := Scalar.select v429 c1_i32_335 c8_i32_333
  let v431 : BitVec 32 := Scalar.remsi v428 v430
  let c0_i32_337 : BitVec 32 := 0#32
  let v433 : BitVec 1 := Scalar.cmpi .slt v431 c0_i32_337
  let c0_i32_338 : BitVec 32 := 0#32
  let v434 : BitVec 1 := Scalar.cmpi .slt v430 c0_i32_338
  let v435 : BitVec 1 := Scalar.xori v433 v434
  let c0_i32_336 : BitVec 32 := 0#32
  let v432 : BitVec 1 := Scalar.cmpi .ne v431 c0_i32_336
  let v436 : BitVec 1 := Scalar.andi v435 v432
  let v437 : BitVec 32 := Scalar.addi v431 v430
  let v438 : BitVec 32 := Scalar.select v436 v437 v431
  let c1_i32_345 : BitVec 32 := 1#32
  let v439 : BitVec 32 := Scalar.muli v438 c1_i32_345
  let v440 : BitVec 32 := Scalar.addi c0_i32_346 v439
  v440.toNat
def k0_dev13 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_388 : BitVec 32 := 2#32
  let v494 : BitVec 32 := Scalar.addi v2 c2_i32_388
  let c8_i32_389 : BitVec 32 := 8#32
  let c0_i32_390 : BitVec 32 := 0#32
  let v495 : BitVec 1 := Scalar.cmpi .eq c8_i32_389 c0_i32_390
  let c1_i32_391 : BitVec 32 := 1#32
  let v496 : BitVec 32 := Scalar.select v495 c1_i32_391 c8_i32_389
  let v497 : BitVec 32 := Scalar.remsi v494 v496
  let c0_i32_393 : BitVec 32 := 0#32
  let v499 : BitVec 1 := Scalar.cmpi .slt v497 c0_i32_393
  let c0_i32_394 : BitVec 32 := 0#32
  let v500 : BitVec 1 := Scalar.cmpi .slt v496 c0_i32_394
  let v501 : BitVec 1 := Scalar.xori v499 v500
  let c0_i32_392 : BitVec 32 := 0#32
  let v498 : BitVec 1 := Scalar.cmpi .ne v497 c0_i32_392
  let v502 : BitVec 1 := Scalar.andi v501 v498
  let v503 : BitVec 32 := Scalar.addi v497 v496
  let v504 : BitVec 32 := Scalar.select v502 v503 v497
  let c1_i32_401 : BitVec 32 := 1#32
  let v505 : BitVec 32 := Scalar.muli v504 c1_i32_401
  let v506 : BitVec 32 := Scalar.addi c0_i32_402 v505
  v506.toNat
def k0_dev14 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_444 : BitVec 32 := 2#32
  let v560 : BitVec 32 := Scalar.addi v2 c2_i32_444
  let c8_i32_445 : BitVec 32 := 8#32
  let c0_i32_446 : BitVec 32 := 0#32
  let v561 : BitVec 1 := Scalar.cmpi .eq c8_i32_445 c0_i32_446
  let c1_i32_447 : BitVec 32 := 1#32
  let v562 : BitVec 32 := Scalar.select v561 c1_i32_447 c8_i32_445
  let v563 : BitVec 32 := Scalar.remsi v560 v562
  let c0_i32_449 : BitVec 32 := 0#32
  let v565 : BitVec 1 := Scalar.cmpi .slt v563 c0_i32_449
  let c0_i32_450 : BitVec 32 := 0#32
  let v566 : BitVec 1 := Scalar.cmpi .slt v562 c0_i32_450
  let v567 : BitVec 1 := Scalar.xori v565 v566
  let c0_i32_448 : BitVec 32 := 0#32
  let v564 : BitVec 1 := Scalar.cmpi .ne v563 c0_i32_448
  let v568 : BitVec 1 := Scalar.andi v567 v564
  let v569 : BitVec 32 := Scalar.addi v563 v562
  let v570 : BitVec 32 := Scalar.select v568 v569 v563
  let c1_i32_457 : BitVec 32 := 1#32
  let v571 : BitVec 32 := Scalar.muli v570 c1_i32_457
  let v572 : BitVec 32 := Scalar.addi c0_i32_458 v571
  v572.toNat
def k0_dev15 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_500 : BitVec 32 := 2#32
  let v626 : BitVec 32 := Scalar.addi v2 c2_i32_500
  let c8_i32_501 : BitVec 32 := 8#32
  let c0_i32_502 : BitVec 32 := 0#32
  let v627 : BitVec 1 := Scalar.cmpi .eq c8_i32_501 c0_i32_502
  let c1_i32_503 : BitVec 32 := 1#32
  let v628 : BitVec 32 := Scalar.select v627 c1_i32_503 c8_i32_501
  let v629 : BitVec 32 := Scalar.remsi v626 v628
  let c0_i32_505 : BitVec 32 := 0#32
  let v631 : BitVec 1 := Scalar.cmpi .slt v629 c0_i32_505
  let c0_i32_506 : BitVec 32 := 0#32
  let v632 : BitVec 1 := Scalar.cmpi .slt v628 c0_i32_506
  let v633 : BitVec 1 := Scalar.xori v631 v632
  let c0_i32_504 : BitVec 32 := 0#32
  let v630 : BitVec 1 := Scalar.cmpi .ne v629 c0_i32_504
  let v634 : BitVec 1 := Scalar.andi v633 v630
  let v635 : BitVec 32 := Scalar.addi v629 v628
  let v636 : BitVec 32 := Scalar.select v634 v635 v629
  let c1_i32_513 : BitVec 32 := 1#32
  let v637 : BitVec 32 := Scalar.muli v636 c1_i32_513
  let v638 : BitVec 32 := Scalar.addi c0_i32_514 v637
  v638.toNat
def k0_dev16 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_555 : BitVec 32 := 3#32
  let v692 : BitVec 32 := Scalar.addi v2 c3_i32_555
  let c8_i32_556 : BitVec 32 := 8#32
  let c0_i32_557 : BitVec 32 := 0#32
  let v693 : BitVec 1 := Scalar.cmpi .eq c8_i32_556 c0_i32_557
  let c1_i32_558 : BitVec 32 := 1#32
  let v694 : BitVec 32 := Scalar.select v693 c1_i32_558 c8_i32_556
  let v695 : BitVec 32 := Scalar.remsi v692 v694
  let c0_i32_560 : BitVec 32 := 0#32
  let v697 : BitVec 1 := Scalar.cmpi .slt v695 c0_i32_560
  let c0_i32_561 : BitVec 32 := 0#32
  let v698 : BitVec 1 := Scalar.cmpi .slt v694 c0_i32_561
  let v699 : BitVec 1 := Scalar.xori v697 v698
  let c0_i32_559 : BitVec 32 := 0#32
  let v696 : BitVec 1 := Scalar.cmpi .ne v695 c0_i32_559
  let v700 : BitVec 1 := Scalar.andi v699 v696
  let v701 : BitVec 32 := Scalar.addi v695 v694
  let v702 : BitVec 32 := Scalar.select v700 v701 v695
  let c1_i32_568 : BitVec 32 := 1#32
  let v703 : BitVec 32 := Scalar.muli v702 c1_i32_568
  let v704 : BitVec 32 := Scalar.addi c0_i32_569 v703
  v704.toNat
def k0_dev17 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_611 : BitVec 32 := 3#32
  let v758 : BitVec 32 := Scalar.addi v2 c3_i32_611
  let c8_i32_612 : BitVec 32 := 8#32
  let c0_i32_613 : BitVec 32 := 0#32
  let v759 : BitVec 1 := Scalar.cmpi .eq c8_i32_612 c0_i32_613
  let c1_i32_614 : BitVec 32 := 1#32
  let v760 : BitVec 32 := Scalar.select v759 c1_i32_614 c8_i32_612
  let v761 : BitVec 32 := Scalar.remsi v758 v760
  let c0_i32_616 : BitVec 32 := 0#32
  let v763 : BitVec 1 := Scalar.cmpi .slt v761 c0_i32_616
  let c0_i32_617 : BitVec 32 := 0#32
  let v764 : BitVec 1 := Scalar.cmpi .slt v760 c0_i32_617
  let v765 : BitVec 1 := Scalar.xori v763 v764
  let c0_i32_615 : BitVec 32 := 0#32
  let v762 : BitVec 1 := Scalar.cmpi .ne v761 c0_i32_615
  let v766 : BitVec 1 := Scalar.andi v765 v762
  let v767 : BitVec 32 := Scalar.addi v761 v760
  let v768 : BitVec 32 := Scalar.select v766 v767 v761
  let c1_i32_624 : BitVec 32 := 1#32
  let v769 : BitVec 32 := Scalar.muli v768 c1_i32_624
  let v770 : BitVec 32 := Scalar.addi c0_i32_625 v769
  v770.toNat
def k0_dev18 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_667 : BitVec 32 := 3#32
  let v824 : BitVec 32 := Scalar.addi v2 c3_i32_667
  let c8_i32_668 : BitVec 32 := 8#32
  let c0_i32_669 : BitVec 32 := 0#32
  let v825 : BitVec 1 := Scalar.cmpi .eq c8_i32_668 c0_i32_669
  let c1_i32_670 : BitVec 32 := 1#32
  let v826 : BitVec 32 := Scalar.select v825 c1_i32_670 c8_i32_668
  let v827 : BitVec 32 := Scalar.remsi v824 v826
  let c0_i32_672 : BitVec 32 := 0#32
  let v829 : BitVec 1 := Scalar.cmpi .slt v827 c0_i32_672
  let c0_i32_673 : BitVec 32 := 0#32
  let v830 : BitVec 1 := Scalar.cmpi .slt v826 c0_i32_673
  let v831 : BitVec 1 := Scalar.xori v829 v830
  let c0_i32_671 : BitVec 32 := 0#32
  let v828 : BitVec 1 := Scalar.cmpi .ne v827 c0_i32_671
  let v832 : BitVec 1 := Scalar.andi v831 v828
  let v833 : BitVec 32 := Scalar.addi v827 v826
  let v834 : BitVec 32 := Scalar.select v832 v833 v827
  let c1_i32_680 : BitVec 32 := 1#32
  let v835 : BitVec 32 := Scalar.muli v834 c1_i32_680
  let v836 : BitVec 32 := Scalar.addi c0_i32_681 v835
  v836.toNat
def k0_dev19 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_723 : BitVec 32 := 3#32
  let v890 : BitVec 32 := Scalar.addi v2 c3_i32_723
  let c8_i32_724 : BitVec 32 := 8#32
  let c0_i32_725 : BitVec 32 := 0#32
  let v891 : BitVec 1 := Scalar.cmpi .eq c8_i32_724 c0_i32_725
  let c1_i32_726 : BitVec 32 := 1#32
  let v892 : BitVec 32 := Scalar.select v891 c1_i32_726 c8_i32_724
  let v893 : BitVec 32 := Scalar.remsi v890 v892
  let c0_i32_728 : BitVec 32 := 0#32
  let v895 : BitVec 1 := Scalar.cmpi .slt v893 c0_i32_728
  let c0_i32_729 : BitVec 32 := 0#32
  let v896 : BitVec 1 := Scalar.cmpi .slt v892 c0_i32_729
  let v897 : BitVec 1 := Scalar.xori v895 v896
  let c0_i32_727 : BitVec 32 := 0#32
  let v894 : BitVec 1 := Scalar.cmpi .ne v893 c0_i32_727
  let v898 : BitVec 1 := Scalar.andi v897 v894
  let v899 : BitVec 32 := Scalar.addi v893 v892
  let v900 : BitVec 32 := Scalar.select v898 v899 v893
  let c1_i32_736 : BitVec 32 := 1#32
  let v901 : BitVec 32 := Scalar.muli v900 c1_i32_736
  let v902 : BitVec 32 := Scalar.addi c0_i32_737 v901
  v902.toNat
def k0_dev20 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_778 : BitVec 32 := 4#32
  let v956 : BitVec 32 := Scalar.addi v2 c4_i32_778
  let c8_i32_779 : BitVec 32 := 8#32
  let c0_i32_780 : BitVec 32 := 0#32
  let v957 : BitVec 1 := Scalar.cmpi .eq c8_i32_779 c0_i32_780
  let c1_i32_781 : BitVec 32 := 1#32
  let v958 : BitVec 32 := Scalar.select v957 c1_i32_781 c8_i32_779
  let v959 : BitVec 32 := Scalar.remsi v956 v958
  let c0_i32_783 : BitVec 32 := 0#32
  let v961 : BitVec 1 := Scalar.cmpi .slt v959 c0_i32_783
  let c0_i32_784 : BitVec 32 := 0#32
  let v962 : BitVec 1 := Scalar.cmpi .slt v958 c0_i32_784
  let v963 : BitVec 1 := Scalar.xori v961 v962
  let c0_i32_782 : BitVec 32 := 0#32
  let v960 : BitVec 1 := Scalar.cmpi .ne v959 c0_i32_782
  let v964 : BitVec 1 := Scalar.andi v963 v960
  let v965 : BitVec 32 := Scalar.addi v959 v958
  let v966 : BitVec 32 := Scalar.select v964 v965 v959
  let c1_i32_791 : BitVec 32 := 1#32
  let v967 : BitVec 32 := Scalar.muli v966 c1_i32_791
  let v968 : BitVec 32 := Scalar.addi c0_i32_792 v967
  v968.toNat
def k0_dev21 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_834 : BitVec 32 := 4#32
  let v1022 : BitVec 32 := Scalar.addi v2 c4_i32_834
  let c8_i32_835 : BitVec 32 := 8#32
  let c0_i32_836 : BitVec 32 := 0#32
  let v1023 : BitVec 1 := Scalar.cmpi .eq c8_i32_835 c0_i32_836
  let c1_i32_837 : BitVec 32 := 1#32
  let v1024 : BitVec 32 := Scalar.select v1023 c1_i32_837 c8_i32_835
  let v1025 : BitVec 32 := Scalar.remsi v1022 v1024
  let c0_i32_839 : BitVec 32 := 0#32
  let v1027 : BitVec 1 := Scalar.cmpi .slt v1025 c0_i32_839
  let c0_i32_840 : BitVec 32 := 0#32
  let v1028 : BitVec 1 := Scalar.cmpi .slt v1024 c0_i32_840
  let v1029 : BitVec 1 := Scalar.xori v1027 v1028
  let c0_i32_838 : BitVec 32 := 0#32
  let v1026 : BitVec 1 := Scalar.cmpi .ne v1025 c0_i32_838
  let v1030 : BitVec 1 := Scalar.andi v1029 v1026
  let v1031 : BitVec 32 := Scalar.addi v1025 v1024
  let v1032 : BitVec 32 := Scalar.select v1030 v1031 v1025
  let c1_i32_847 : BitVec 32 := 1#32
  let v1033 : BitVec 32 := Scalar.muli v1032 c1_i32_847
  let v1034 : BitVec 32 := Scalar.addi c0_i32_848 v1033
  v1034.toNat
def k0_dev22 (d0 : Dev nD) : Nat :=
  let c0_i32_904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_890 : BitVec 32 := 4#32
  let v1088 : BitVec 32 := Scalar.addi v2 c4_i32_890
  let c8_i32_891 : BitVec 32 := 8#32
  let c0_i32_892 : BitVec 32 := 0#32
  let v1089 : BitVec 1 := Scalar.cmpi .eq c8_i32_891 c0_i32_892
  let c1_i32_893 : BitVec 32 := 1#32
  let v1090 : BitVec 32 := Scalar.select v1089 c1_i32_893 c8_i32_891
  let v1091 : BitVec 32 := Scalar.remsi v1088 v1090
  let c0_i32_895 : BitVec 32 := 0#32
  let v1093 : BitVec 1 := Scalar.cmpi .slt v1091 c0_i32_895
  let c0_i32_896 : BitVec 32 := 0#32
  let v1094 : BitVec 1 := Scalar.cmpi .slt v1090 c0_i32_896
  let v1095 : BitVec 1 := Scalar.xori v1093 v1094
  let c0_i32_894 : BitVec 32 := 0#32
  let v1092 : BitVec 1 := Scalar.cmpi .ne v1091 c0_i32_894
  let v1096 : BitVec 1 := Scalar.andi v1095 v1092
  let v1097 : BitVec 32 := Scalar.addi v1091 v1090
  let v1098 : BitVec 32 := Scalar.select v1096 v1097 v1091
  let c1_i32_903 : BitVec 32 := 1#32
  let v1099 : BitVec 32 := Scalar.muli v1098 c1_i32_903
  let v1100 : BitVec 32 := Scalar.addi c0_i32_904 v1099
  v1100.toNat
def k0_dev23 (d0 : Dev nD) : Nat :=
  let c0_i32_960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_946 : BitVec 32 := 4#32
  let v1154 : BitVec 32 := Scalar.addi v2 c4_i32_946
  let c8_i32_947 : BitVec 32 := 8#32
  let c0_i32_948 : BitVec 32 := 0#32
  let v1155 : BitVec 1 := Scalar.cmpi .eq c8_i32_947 c0_i32_948
  let c1_i32_949 : BitVec 32 := 1#32
  let v1156 : BitVec 32 := Scalar.select v1155 c1_i32_949 c8_i32_947
  let v1157 : BitVec 32 := Scalar.remsi v1154 v1156
  let c0_i32_951 : BitVec 32 := 0#32
  let v1159 : BitVec 1 := Scalar.cmpi .slt v1157 c0_i32_951
  let c0_i32_952 : BitVec 32 := 0#32
  let v1160 : BitVec 1 := Scalar.cmpi .slt v1156 c0_i32_952
  let v1161 : BitVec 1 := Scalar.xori v1159 v1160
  let c0_i32_950 : BitVec 32 := 0#32
  let v1158 : BitVec 1 := Scalar.cmpi .ne v1157 c0_i32_950
  let v1162 : BitVec 1 := Scalar.andi v1161 v1158
  let v1163 : BitVec 32 := Scalar.addi v1157 v1156
  let v1164 : BitVec 32 := Scalar.select v1162 v1163 v1157
  let c1_i32_959 : BitVec 32 := 1#32
  let v1165 : BitVec 32 := Scalar.muli v1164 c1_i32_959
  let v1166 : BitVec 32 := Scalar.addi c0_i32_960 v1165
  v1166.toNat
def k0_dev24 (d0 : Dev nD) : Nat :=
  let c0_i32_1015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1001 : BitVec 32 := 5#32
  let v1220 : BitVec 32 := Scalar.addi v2 c5_i32_1001
  let c8_i32_1002 : BitVec 32 := 8#32
  let c0_i32_1003 : BitVec 32 := 0#32
  let v1221 : BitVec 1 := Scalar.cmpi .eq c8_i32_1002 c0_i32_1003
  let c1_i32_1004 : BitVec 32 := 1#32
  let v1222 : BitVec 32 := Scalar.select v1221 c1_i32_1004 c8_i32_1002
  let v1223 : BitVec 32 := Scalar.remsi v1220 v1222
  let c0_i32_1006 : BitVec 32 := 0#32
  let v1225 : BitVec 1 := Scalar.cmpi .slt v1223 c0_i32_1006
  let c0_i32_1007 : BitVec 32 := 0#32
  let v1226 : BitVec 1 := Scalar.cmpi .slt v1222 c0_i32_1007
  let v1227 : BitVec 1 := Scalar.xori v1225 v1226
  let c0_i32_1005 : BitVec 32 := 0#32
  let v1224 : BitVec 1 := Scalar.cmpi .ne v1223 c0_i32_1005
  let v1228 : BitVec 1 := Scalar.andi v1227 v1224
  let v1229 : BitVec 32 := Scalar.addi v1223 v1222
  let v1230 : BitVec 32 := Scalar.select v1228 v1229 v1223
  let c1_i32_1014 : BitVec 32 := 1#32
  let v1231 : BitVec 32 := Scalar.muli v1230 c1_i32_1014
  let v1232 : BitVec 32 := Scalar.addi c0_i32_1015 v1231
  v1232.toNat
def k0_dev25 (d0 : Dev nD) : Nat :=
  let c0_i32_1071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1057 : BitVec 32 := 5#32
  let v1286 : BitVec 32 := Scalar.addi v2 c5_i32_1057
  let c8_i32_1058 : BitVec 32 := 8#32
  let c0_i32_1059 : BitVec 32 := 0#32
  let v1287 : BitVec 1 := Scalar.cmpi .eq c8_i32_1058 c0_i32_1059
  let c1_i32_1060 : BitVec 32 := 1#32
  let v1288 : BitVec 32 := Scalar.select v1287 c1_i32_1060 c8_i32_1058
  let v1289 : BitVec 32 := Scalar.remsi v1286 v1288
  let c0_i32_1062 : BitVec 32 := 0#32
  let v1291 : BitVec 1 := Scalar.cmpi .slt v1289 c0_i32_1062
  let c0_i32_1063 : BitVec 32 := 0#32
  let v1292 : BitVec 1 := Scalar.cmpi .slt v1288 c0_i32_1063
  let v1293 : BitVec 1 := Scalar.xori v1291 v1292
  let c0_i32_1061 : BitVec 32 := 0#32
  let v1290 : BitVec 1 := Scalar.cmpi .ne v1289 c0_i32_1061
  let v1294 : BitVec 1 := Scalar.andi v1293 v1290
  let v1295 : BitVec 32 := Scalar.addi v1289 v1288
  let v1296 : BitVec 32 := Scalar.select v1294 v1295 v1289
  let c1_i32_1070 : BitVec 32 := 1#32
  let v1297 : BitVec 32 := Scalar.muli v1296 c1_i32_1070
  let v1298 : BitVec 32 := Scalar.addi c0_i32_1071 v1297
  v1298.toNat
def k0_dev26 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1113 : BitVec 32 := 5#32
  let v1352 : BitVec 32 := Scalar.addi v2 c5_i32_1113
  let c8_i32_1114 : BitVec 32 := 8#32
  let c0_i32_1115 : BitVec 32 := 0#32
  let v1353 : BitVec 1 := Scalar.cmpi .eq c8_i32_1114 c0_i32_1115
  let c1_i32_1116 : BitVec 32 := 1#32
  let v1354 : BitVec 32 := Scalar.select v1353 c1_i32_1116 c8_i32_1114
  let v1355 : BitVec 32 := Scalar.remsi v1352 v1354
  let c0_i32_1118 : BitVec 32 := 0#32
  let v1357 : BitVec 1 := Scalar.cmpi .slt v1355 c0_i32_1118
  let c0_i32_1119 : BitVec 32 := 0#32
  let v1358 : BitVec 1 := Scalar.cmpi .slt v1354 c0_i32_1119
  let v1359 : BitVec 1 := Scalar.xori v1357 v1358
  let c0_i32_1117 : BitVec 32 := 0#32
  let v1356 : BitVec 1 := Scalar.cmpi .ne v1355 c0_i32_1117
  let v1360 : BitVec 1 := Scalar.andi v1359 v1356
  let v1361 : BitVec 32 := Scalar.addi v1355 v1354
  let v1362 : BitVec 32 := Scalar.select v1360 v1361 v1355
  let c1_i32_1126 : BitVec 32 := 1#32
  let v1363 : BitVec 32 := Scalar.muli v1362 c1_i32_1126
  let v1364 : BitVec 32 := Scalar.addi c0_i32_1127 v1363
  v1364.toNat
def k0_dev27 (d0 : Dev nD) : Nat :=
  let c0_i32_1183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1169 : BitVec 32 := 5#32
  let v1418 : BitVec 32 := Scalar.addi v2 c5_i32_1169
  let c8_i32_1170 : BitVec 32 := 8#32
  let c0_i32_1171 : BitVec 32 := 0#32
  let v1419 : BitVec 1 := Scalar.cmpi .eq c8_i32_1170 c0_i32_1171
  let c1_i32_1172 : BitVec 32 := 1#32
  let v1420 : BitVec 32 := Scalar.select v1419 c1_i32_1172 c8_i32_1170
  let v1421 : BitVec 32 := Scalar.remsi v1418 v1420
  let c0_i32_1174 : BitVec 32 := 0#32
  let v1423 : BitVec 1 := Scalar.cmpi .slt v1421 c0_i32_1174
  let c0_i32_1175 : BitVec 32 := 0#32
  let v1424 : BitVec 1 := Scalar.cmpi .slt v1420 c0_i32_1175
  let v1425 : BitVec 1 := Scalar.xori v1423 v1424
  let c0_i32_1173 : BitVec 32 := 0#32
  let v1422 : BitVec 1 := Scalar.cmpi .ne v1421 c0_i32_1173
  let v1426 : BitVec 1 := Scalar.andi v1425 v1422
  let v1427 : BitVec 32 := Scalar.addi v1421 v1420
  let v1428 : BitVec 32 := Scalar.select v1426 v1427 v1421
  let c1_i32_1182 : BitVec 32 := 1#32
  let v1429 : BitVec 32 := Scalar.muli v1428 c1_i32_1182
  let v1430 : BitVec 32 := Scalar.addi c0_i32_1183 v1429
  v1430.toNat
def k0_dev28 (d0 : Dev nD) : Nat :=
  let c0_i32_1238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1224 : BitVec 32 := 6#32
  let v1484 : BitVec 32 := Scalar.addi v2 c6_i32_1224
  let c8_i32_1225 : BitVec 32 := 8#32
  let c0_i32_1226 : BitVec 32 := 0#32
  let v1485 : BitVec 1 := Scalar.cmpi .eq c8_i32_1225 c0_i32_1226
  let c1_i32_1227 : BitVec 32 := 1#32
  let v1486 : BitVec 32 := Scalar.select v1485 c1_i32_1227 c8_i32_1225
  let v1487 : BitVec 32 := Scalar.remsi v1484 v1486
  let c0_i32_1229 : BitVec 32 := 0#32
  let v1489 : BitVec 1 := Scalar.cmpi .slt v1487 c0_i32_1229
  let c0_i32_1230 : BitVec 32 := 0#32
  let v1490 : BitVec 1 := Scalar.cmpi .slt v1486 c0_i32_1230
  let v1491 : BitVec 1 := Scalar.xori v1489 v1490
  let c0_i32_1228 : BitVec 32 := 0#32
  let v1488 : BitVec 1 := Scalar.cmpi .ne v1487 c0_i32_1228
  let v1492 : BitVec 1 := Scalar.andi v1491 v1488
  let v1493 : BitVec 32 := Scalar.addi v1487 v1486
  let v1494 : BitVec 32 := Scalar.select v1492 v1493 v1487
  let c1_i32_1237 : BitVec 32 := 1#32
  let v1495 : BitVec 32 := Scalar.muli v1494 c1_i32_1237
  let v1496 : BitVec 32 := Scalar.addi c0_i32_1238 v1495
  v1496.toNat
def k0_dev29 (d0 : Dev nD) : Nat :=
  let c0_i32_1294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1280 : BitVec 32 := 6#32
  let v1550 : BitVec 32 := Scalar.addi v2 c6_i32_1280
  let c8_i32_1281 : BitVec 32 := 8#32
  let c0_i32_1282 : BitVec 32 := 0#32
  let v1551 : BitVec 1 := Scalar.cmpi .eq c8_i32_1281 c0_i32_1282
  let c1_i32_1283 : BitVec 32 := 1#32
  let v1552 : BitVec 32 := Scalar.select v1551 c1_i32_1283 c8_i32_1281
  let v1553 : BitVec 32 := Scalar.remsi v1550 v1552
  let c0_i32_1285 : BitVec 32 := 0#32
  let v1555 : BitVec 1 := Scalar.cmpi .slt v1553 c0_i32_1285
  let c0_i32_1286 : BitVec 32 := 0#32
  let v1556 : BitVec 1 := Scalar.cmpi .slt v1552 c0_i32_1286
  let v1557 : BitVec 1 := Scalar.xori v1555 v1556
  let c0_i32_1284 : BitVec 32 := 0#32
  let v1554 : BitVec 1 := Scalar.cmpi .ne v1553 c0_i32_1284
  let v1558 : BitVec 1 := Scalar.andi v1557 v1554
  let v1559 : BitVec 32 := Scalar.addi v1553 v1552
  let v1560 : BitVec 32 := Scalar.select v1558 v1559 v1553
  let c1_i32_1293 : BitVec 32 := 1#32
  let v1561 : BitVec 32 := Scalar.muli v1560 c1_i32_1293
  let v1562 : BitVec 32 := Scalar.addi c0_i32_1294 v1561
  v1562.toNat
def k0_dev30 (d0 : Dev nD) : Nat :=
  let c0_i32_1350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1336 : BitVec 32 := 6#32
  let v1616 : BitVec 32 := Scalar.addi v2 c6_i32_1336
  let c8_i32_1337 : BitVec 32 := 8#32
  let c0_i32_1338 : BitVec 32 := 0#32
  let v1617 : BitVec 1 := Scalar.cmpi .eq c8_i32_1337 c0_i32_1338
  let c1_i32_1339 : BitVec 32 := 1#32
  let v1618 : BitVec 32 := Scalar.select v1617 c1_i32_1339 c8_i32_1337
  let v1619 : BitVec 32 := Scalar.remsi v1616 v1618
  let c0_i32_1341 : BitVec 32 := 0#32
  let v1621 : BitVec 1 := Scalar.cmpi .slt v1619 c0_i32_1341
  let c0_i32_1342 : BitVec 32 := 0#32
  let v1622 : BitVec 1 := Scalar.cmpi .slt v1618 c0_i32_1342
  let v1623 : BitVec 1 := Scalar.xori v1621 v1622
  let c0_i32_1340 : BitVec 32 := 0#32
  let v1620 : BitVec 1 := Scalar.cmpi .ne v1619 c0_i32_1340
  let v1624 : BitVec 1 := Scalar.andi v1623 v1620
  let v1625 : BitVec 32 := Scalar.addi v1619 v1618
  let v1626 : BitVec 32 := Scalar.select v1624 v1625 v1619
  let c1_i32_1349 : BitVec 32 := 1#32
  let v1627 : BitVec 32 := Scalar.muli v1626 c1_i32_1349
  let v1628 : BitVec 32 := Scalar.addi c0_i32_1350 v1627
  v1628.toNat
def k0_dev31 (d0 : Dev nD) : Nat :=
  let c0_i32_1406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1392 : BitVec 32 := 6#32
  let v1682 : BitVec 32 := Scalar.addi v2 c6_i32_1392
  let c8_i32_1393 : BitVec 32 := 8#32
  let c0_i32_1394 : BitVec 32 := 0#32
  let v1683 : BitVec 1 := Scalar.cmpi .eq c8_i32_1393 c0_i32_1394
  let c1_i32_1395 : BitVec 32 := 1#32
  let v1684 : BitVec 32 := Scalar.select v1683 c1_i32_1395 c8_i32_1393
  let v1685 : BitVec 32 := Scalar.remsi v1682 v1684
  let c0_i32_1397 : BitVec 32 := 0#32
  let v1687 : BitVec 1 := Scalar.cmpi .slt v1685 c0_i32_1397
  let c0_i32_1398 : BitVec 32 := 0#32
  let v1688 : BitVec 1 := Scalar.cmpi .slt v1684 c0_i32_1398
  let v1689 : BitVec 1 := Scalar.xori v1687 v1688
  let c0_i32_1396 : BitVec 32 := 0#32
  let v1686 : BitVec 1 := Scalar.cmpi .ne v1685 c0_i32_1396
  let v1690 : BitVec 1 := Scalar.andi v1689 v1686
  let v1691 : BitVec 32 := Scalar.addi v1685 v1684
  let v1692 : BitVec 32 := Scalar.select v1690 v1691 v1685
  let c1_i32_1405 : BitVec 32 := 1#32
  let v1693 : BitVec 32 := Scalar.muli v1692 c1_i32_1405
  let v1694 : BitVec 32 := Scalar.addi c0_i32_1406 v1693
  v1694.toNat
def k0_dev32 (d0 : Dev nD) : Nat :=
  let c0_i32_1461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1447 : BitVec 32 := 7#32
  let v1748 : BitVec 32 := Scalar.addi v2 c7_i32_1447
  let c8_i32_1448 : BitVec 32 := 8#32
  let c0_i32_1449 : BitVec 32 := 0#32
  let v1749 : BitVec 1 := Scalar.cmpi .eq c8_i32_1448 c0_i32_1449
  let c1_i32_1450 : BitVec 32 := 1#32
  let v1750 : BitVec 32 := Scalar.select v1749 c1_i32_1450 c8_i32_1448
  let v1751 : BitVec 32 := Scalar.remsi v1748 v1750
  let c0_i32_1452 : BitVec 32 := 0#32
  let v1753 : BitVec 1 := Scalar.cmpi .slt v1751 c0_i32_1452
  let c0_i32_1453 : BitVec 32 := 0#32
  let v1754 : BitVec 1 := Scalar.cmpi .slt v1750 c0_i32_1453
  let v1755 : BitVec 1 := Scalar.xori v1753 v1754
  let c0_i32_1451 : BitVec 32 := 0#32
  let v1752 : BitVec 1 := Scalar.cmpi .ne v1751 c0_i32_1451
  let v1756 : BitVec 1 := Scalar.andi v1755 v1752
  let v1757 : BitVec 32 := Scalar.addi v1751 v1750
  let v1758 : BitVec 32 := Scalar.select v1756 v1757 v1751
  let c1_i32_1460 : BitVec 32 := 1#32
  let v1759 : BitVec 32 := Scalar.muli v1758 c1_i32_1460
  let v1760 : BitVec 32 := Scalar.addi c0_i32_1461 v1759
  v1760.toNat
def k0_dev33 (d0 : Dev nD) : Nat :=
  let c0_i32_1517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1503 : BitVec 32 := 7#32
  let v1814 : BitVec 32 := Scalar.addi v2 c7_i32_1503
  let c8_i32_1504 : BitVec 32 := 8#32
  let c0_i32_1505 : BitVec 32 := 0#32
  let v1815 : BitVec 1 := Scalar.cmpi .eq c8_i32_1504 c0_i32_1505
  let c1_i32_1506 : BitVec 32 := 1#32
  let v1816 : BitVec 32 := Scalar.select v1815 c1_i32_1506 c8_i32_1504
  let v1817 : BitVec 32 := Scalar.remsi v1814 v1816
  let c0_i32_1508 : BitVec 32 := 0#32
  let v1819 : BitVec 1 := Scalar.cmpi .slt v1817 c0_i32_1508
  let c0_i32_1509 : BitVec 32 := 0#32
  let v1820 : BitVec 1 := Scalar.cmpi .slt v1816 c0_i32_1509
  let v1821 : BitVec 1 := Scalar.xori v1819 v1820
  let c0_i32_1507 : BitVec 32 := 0#32
  let v1818 : BitVec 1 := Scalar.cmpi .ne v1817 c0_i32_1507
  let v1822 : BitVec 1 := Scalar.andi v1821 v1818
  let v1823 : BitVec 32 := Scalar.addi v1817 v1816
  let v1824 : BitVec 32 := Scalar.select v1822 v1823 v1817
  let c1_i32_1516 : BitVec 32 := 1#32
  let v1825 : BitVec 32 := Scalar.muli v1824 c1_i32_1516
  let v1826 : BitVec 32 := Scalar.addi c0_i32_1517 v1825
  v1826.toNat
def k0_dev34 (d0 : Dev nD) : Nat :=
  let c0_i32_1573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1559 : BitVec 32 := 7#32
  let v1880 : BitVec 32 := Scalar.addi v2 c7_i32_1559
  let c8_i32_1560 : BitVec 32 := 8#32
  let c0_i32_1561 : BitVec 32 := 0#32
  let v1881 : BitVec 1 := Scalar.cmpi .eq c8_i32_1560 c0_i32_1561
  let c1_i32_1562 : BitVec 32 := 1#32
  let v1882 : BitVec 32 := Scalar.select v1881 c1_i32_1562 c8_i32_1560
  let v1883 : BitVec 32 := Scalar.remsi v1880 v1882
  let c0_i32_1564 : BitVec 32 := 0#32
  let v1885 : BitVec 1 := Scalar.cmpi .slt v1883 c0_i32_1564
  let c0_i32_1565 : BitVec 32 := 0#32
  let v1886 : BitVec 1 := Scalar.cmpi .slt v1882 c0_i32_1565
  let v1887 : BitVec 1 := Scalar.xori v1885 v1886
  let c0_i32_1563 : BitVec 32 := 0#32
  let v1884 : BitVec 1 := Scalar.cmpi .ne v1883 c0_i32_1563
  let v1888 : BitVec 1 := Scalar.andi v1887 v1884
  let v1889 : BitVec 32 := Scalar.addi v1883 v1882
  let v1890 : BitVec 32 := Scalar.select v1888 v1889 v1883
  let c1_i32_1572 : BitVec 32 := 1#32
  let v1891 : BitVec 32 := Scalar.muli v1890 c1_i32_1572
  let v1892 : BitVec 32 := Scalar.addi c0_i32_1573 v1891
  v1892.toNat
def k0_dev35 (d0 : Dev nD) : Nat :=
  let c0_i32_1629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1615 : BitVec 32 := 7#32
  let v1946 : BitVec 32 := Scalar.addi v2 c7_i32_1615
  let c8_i32_1616 : BitVec 32 := 8#32
  let c0_i32_1617 : BitVec 32 := 0#32
  let v1947 : BitVec 1 := Scalar.cmpi .eq c8_i32_1616 c0_i32_1617
  let c1_i32_1618 : BitVec 32 := 1#32
  let v1948 : BitVec 32 := Scalar.select v1947 c1_i32_1618 c8_i32_1616
  let v1949 : BitVec 32 := Scalar.remsi v1946 v1948
  let c0_i32_1620 : BitVec 32 := 0#32
  let v1951 : BitVec 1 := Scalar.cmpi .slt v1949 c0_i32_1620
  let c0_i32_1621 : BitVec 32 := 0#32
  let v1952 : BitVec 1 := Scalar.cmpi .slt v1948 c0_i32_1621
  let v1953 : BitVec 1 := Scalar.xori v1951 v1952
  let c0_i32_1619 : BitVec 32 := 0#32
  let v1950 : BitVec 1 := Scalar.cmpi .ne v1949 c0_i32_1619
  let v1954 : BitVec 1 := Scalar.andi v1953 v1950
  let v1955 : BitVec 32 := Scalar.addi v1949 v1948
  let v1956 : BitVec 32 := Scalar.select v1954 v1955 v1949
  let c1_i32_1628 : BitVec 32 := 1#32
  let v1957 : BitVec 32 := Scalar.muli v1956 c1_i32_1628
  let v1958 : BitVec 32 := Scalar.addi c0_i32_1629 v1957
  v1958.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1668 : BitVec 32 := 512#32
  let v2008 : BitVec 32 := Scalar.muli v2 c512_i32_1668
  let v2009 : Index := Scalar.indexCast v2008
  let c0_1669 : Index := 0#32
  ![v2009.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1704 : BitVec 32 := 512#32
  let v2052 : BitVec 32 := Scalar.muli v2 c512_i32_1704
  let v2053 : Index := Scalar.indexCast v2052
  let c256_1705 : Index := 256#32
  ![v2053.toNat, 256]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1740 : BitVec 32 := 512#32
  let v2096 : BitVec 32 := Scalar.muli v2 c512_i32_1740
  let v2097 : Index := Scalar.indexCast v2096
  let c512_1741 : Index := 512#32
  ![v2097.toNat, 512]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1762 : BitVec 32 := 512#32
  let v2122 : BitVec 32 := Scalar.muli v2 c512_i32_1762
  let v2123 : Index := Scalar.indexCast v2122
  let c768_1763 : Index := 768#32
  ![v2123.toNat, 768]
def k0_off6 (d0 : Dev nD) (c1_i32_1840 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2201 : BitVec 32 := Scalar.subi v2 c1_i32_1840
  let c8_i32_1841 : BitVec 32 := 8#32
  let c0_i32_1842 : BitVec 32 := 0#32
  let v2202 : BitVec 1 := Scalar.cmpi .eq c8_i32_1841 c0_i32_1842
  let c1_i32_1843 : BitVec 32 := 1#32
  let v2203 : BitVec 32 := Scalar.select v2202 c1_i32_1843 c8_i32_1841
  let v2204 : BitVec 32 := Scalar.remsi v2201 v2203
  let c0_i32_1845 : BitVec 32 := 0#32
  let v2206 : BitVec 1 := Scalar.cmpi .slt v2204 c0_i32_1845
  let c0_i32_1846 : BitVec 32 := 0#32
  let v2207 : BitVec 1 := Scalar.cmpi .slt v2203 c0_i32_1846
  let v2208 : BitVec 1 := Scalar.xori v2206 v2207
  let c0_i32_1844 : BitVec 32 := 0#32
  let v2205 : BitVec 1 := Scalar.cmpi .ne v2204 c0_i32_1844
  let v2209 : BitVec 1 := Scalar.andi v2208 v2205
  let v2210 : BitVec 32 := Scalar.addi v2204 v2203
  let v2211 : BitVec 32 := Scalar.select v2209 v2210 v2204
  let c512_i32_1850 : BitVec 32 := 512#32
  let v2215 : BitVec 32 := Scalar.muli v2211 c512_i32_1850
  let v2216 : Index := Scalar.indexCast v2215
  let c0_1851 : Index := 0#32
  ![v2216.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
The kernel's body, written with loops.

The printed body is unrolled: seven signals, a wait, a cast, thirty-two tiles, seven receives and
twenty-eight last waits. This module writes the same steps once each, over a step `s` and a tile
`t`, and puts them together by loops over lists; `body_eq` says that the printed body is this
program.
-/
module

public import proofs.«01_k».proof.Proof.Gen.KernelIdeal.Points
public import proofs.«01_k».proof.Proof.Gen.KernelIdeal.Launch

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.Sem

variable {F : FTy → Type} [FloatOps F]

/-! ## Where the pieces lie -/

/-- Tile `(s, t)` of the send and receive buffers starts here. -/
def tOff (s : Fin 8) (t : Fin 4) : Fin 3 → Nat := ![s.val, 0, 256 * t.val]

theorem tOff_inb (s : Fin 8) (t : Fin 4) : ∀ a, tOff s t a + S1x512x256.size a ≤ S8x512x1024.size a := by
  revert s t; decide

theorem tOff_packed (s : Fin 8) (t : Fin 4) :
    (Rect.unit (s := S8x512x1024) (tOff s t) S1x512x256.size (tOff_inb s t)).PackedRows (EltTy.packing .bf16) := by
  revert s t; decide

theorem tOff_words (s : Fin 8) (t : Fin 4) :
    (Rect.unit (s := S8x512x1024) (tOff s t) S1x512x256.size (tOff_inb s t)).WholeWords (EltTy.packing .bf16) := by
  revert s t; decide

/-- Slab `s` of the receive buffer. -/
def sOff (s : Fin 8) : Fin 3 → Nat := ![s.val, 0, 0]

theorem sOff_inb (s : Fin 8) : ∀ a, sOff s a + S1x512x1024.size a ≤ S8x512x1024.size a := by
  revert s; decide

/-- The semaphore `(s, t)` of an `8 × 4` array. -/
def cOff (s : Fin 8) (t : Fin 4) : Fin 2 → Nat := ![s.val, t.val]

theorem cOff_inb (s : Fin 8) (t : Fin 4) : ∀ a, cOff s t a + S1x1.size a ≤ S8x4.size a := by
  revert s t; decide

/-- The two slots of the weight buffer take turns. -/
def slot (t : Fin 4) : Fin 2 := ⟨t.val % 2, Nat.mod_lt _ (by decide)⟩

def wOff (j : Fin 2) : Fin 3 → Nat := ![j.val, 0, 0]

theorem wOff_inb (j : Fin 2) : ∀ a, wOff j a + S1x4096x256.size a ≤ S2x4096x256.size a := by
  revert j; decide

def wcOff (j : Fin 2) : Fin 1 → Nat := ![j.val]

theorem wcOff_inb (j : Fin 2) : ∀ a, wcOff j a + S1.size a ≤ S2.size a := by
  revert j; decide

/-- The peer of step `s`, as the kernel computes it. -/
def peerWord (d0 : Dev nD) (c : BitVec 32) : Nat :=
  let v0 : BitVec 32 := Dev.word d0
  let v1 : BitVec 32 := Scalar.divsi v0 1#32
  let v2 : BitVec 32 := Scalar.remsi v1 8#32
  let v4 : BitVec 32 := Scalar.addi v2 c
  let v5 : BitVec 1 := Scalar.cmpi .eq 8#32 0#32
  let v6 : BitVec 32 := Scalar.select v5 1#32 8#32
  let v7 : BitVec 32 := Scalar.remsi v4 v6
  let v9 : BitVec 1 := Scalar.cmpi .slt v7 0#32
  let v10 : BitVec 1 := Scalar.cmpi .slt v6 0#32
  let v11 : BitVec 1 := Scalar.xori v9 v10
  let v8 : BitVec 1 := Scalar.cmpi .ne v7 0#32
  let v12 : BitVec 1 := Scalar.andi v11 v8
  let v13 : BitVec 32 := Scalar.addi v7 v6
  let v14 : BitVec 32 := Scalar.select v12 v13 v7
  let v15 : BitVec 32 := Scalar.muli v14 1#32
  let v16 : BitVec 32 := Scalar.addi 0#32 v15
  v16.toNat

theorem peerWord_eq (d0 : Dev nD) (s : Fin 8) : peerWord d0 (BitVec.ofNat 32 s.val) = (d0.val + s.val) % 8 := by
  revert d0 s; decide +kernel

theorem peerWord_lt (d0 : Dev nD) (s : Fin 8) : peerWord d0 (BitVec.ofNat 32 s.val) < nD := by
  rw [peerWord_eq]; exact Nat.mod_lt _ (by decide)

/-- Where the device's own tile `t` of the result starts. -/
def ownOff (d0 : Dev nD) (n : Nat) : Fin 2 → Nat :=
  let v0 : BitVec 32 := Dev.word d0
  let v1 : BitVec 32 := Scalar.divsi v0 1#32
  let v2 : BitVec 32 := Scalar.remsi v1 8#32
  let v2122 : BitVec 32 := Scalar.muli v2 512#32
  let v2123 : Index := Scalar.indexCast v2122
  ![v2123.toNat, n]

theorem ownOff_eq (d0 : Dev nD) (t : Fin 4) : ownOff d0 (256 * t.val) = ![512 * d0.val, 256 * t.val] := by
  revert d0 t; decide +kernel

theorem ownOff_inb (d0 : Dev nD) (t : Fin 4) : ∀ a, ownOff d0 (256 * t.val) a + S512x256.size a ≤ S4096x1024.size a := by
  rw [ownOff_eq]; revert d0 t; decide

theorem off1_eq (d0 : Dev nD) (s : Fin 8) (t : Fin 4) :
    k0_off1 d0 (BitVec.ofNat 32 s.val) (BitVec.ofNat 32 (256 * t.val)) = ![0, (d0.val + s.val) % 8 * 1024 + 256 * t.val] := by
  revert d0 s t; decide +kernel

theorem off1_inb (d0 : Dev nD) (s : Fin 8) (t : Fin 4) :
    ∀ a, k0_off1 d0 (BitVec.ofNat 32 s.val) (BitVec.ofNat 32 (256 * t.val)) a + S4096x256.size a ≤ S4096x8192.size a :=
  k0_off1_inb d0 s t

theorem off6_eq (d0 : Dev nD) (s : Fin 8) :
    k0_off6 d0 (BitVec.ofNat 32 s.val) = ![(d0.val + (8 - s.val)) % 8 * 512, 0] := by
  revert d0 s; decide +kernel

theorem off6_inb (d0 : Dev nD) (s : Fin 8) :
    ∀ a, k0_off6 d0 (BitVec.ofNat 32 s.val) a + S512x1024.size a ≤ S4096x1024.size a := by
  rw [off6_eq]; revert d0 s; decide

/-! ## The steps -/

/-- Run a step for each item of a list. -/
def each {E : Type → Type} {α : Type} : List α → (α → Prog E PUnit) → Prog E PUnit
  | [], _ => .ret ⟨⟩
  | a :: l, f => f a >>= fun _ => each l f

/-- The seven other places of the ring, and the four tiles. -/
def steps : List (Fin 8) := [1, 2, 3, 4, 5, 6, 7]
def tiles : List (Fin 4) := [0, 1, 2, 3]
/-- The tiles that are sent, in order. -/
def sends : List (Fin 8 × Fin 4) :=
  [(1, 0), (1, 1), (1, 2), (1, 3), (2, 0), (2, 1), (2, 2), (2, 3), (3, 0), (3, 1), (3, 2), (3, 3), (4, 0), (4, 1), (4, 2), (4, 3),
   (5, 0), (5, 1), (5, 2), (5, 3), (6, 0), (6, 1), (6, 2), (6, 3), (7, 0), (7, 1), (7, 2), (7, 3)]

/-- The tile after `(s, t)`. -/
def next (p : Fin 8 × Fin 4) : Fin 8 × Fin 4 := if p.2 = 3 then (p.1 + 1, 0) else (p.1, p.2 + 1)

section
variable (arg0 : Memref sig .tc .vmem S512x4096 .f32) (harg0 : arg0.IsWhole) (arg1 : Memref sig .tc .hbm S4096x8192 .f32) (harg1 : arg1.IsWhole) (arg2 : Memref sig .tc .vmem S4096x1024 .f32) (harg2 : arg2.IsWhole) (arg3 : Memref sig .tc .vmem S512x4096 .bf16) (harg3 : arg3.IsWhole) (arg4 : Memref sig .tc .vmem S2x4096x256 .f32) (harg4 : arg4.IsWhole) (arg5 : Memref sig .tc .vmem S8x512x1024 .bf16) (harg5 : arg5.IsWhole) (arg6 : Memref sig .tc .vmem S8x512x1024 .bf16) (harg6 : arg6.IsWhole) (arg7 : DmaSems sig S2) (arg8 : DmaSems sig S8x4) (arg9 : DmaSems sig S8x4)

/-- Slot `j`'s semaphore, its half of the weight buffer, and a tile of the weights. -/
abbrev wCell (j : Fin 2) : DmaSem sig :=
  ((arg7.slice (Rect.unit (s := S2) (wcOff j) S1.size (wcOff_inb j))).squeeze S_ squeezes_S1_S_).sem
abbrev wSlot (j : Fin 2) : Memref sig .tc .vmem S4096x256 .f32 :=
  (arg4.slice (Rect.unit (s := S2x4096x256) (wOff j) S1x4096x256.size (wOff_inb j)) (fun _ => rfl)).squeeze S4096x256 squeezes_S1x4096x256_S4096x256
abbrev wTile (d0 : Dev nD) (p : Fin 8 × Fin 4) : Memref sig .tc .hbm S4096x256 .f32 :=
  arg1.slice (Rect.unit (s := S4096x8192) (k0_off1 d0 (BitVec.ofNat 32 p.1.val) (BitVec.ofNat 32 (256 * p.2.val))) S4096x256.size (off1_inb d0 p.1 p.2)) (fun _ => rfl)
/-- Tile `(s, t)` of a send or receive buffer, and its semaphore. -/
abbrev tile (arg : Memref sig .tc .vmem S8x512x1024 .bf16) (p : Fin 8 × Fin 4) : Memref sig .tc .vmem S512x256 .bf16 :=
  (arg.slice (Rect.unit (s := S8x512x1024) (tOff p.1 p.2) S1x512x256.size (tOff_inb p.1 p.2)) (fun _ => rfl)).squeeze S512x256 squeezes_S1x512x256_S512x256
abbrev tCell (arg : DmaSems sig S8x4) (p : Fin 8 × Fin 4) : DmaSem sig :=
  ((arg.slice (Rect.unit (s := S8x4) (cOff p.1 p.2) S1x1.size (cOff_inb p.1 p.2))).squeeze S_ squeezes_S1x1_S_).sem

/-- Signal the peer of step `s` on the barrier semaphore. -/
def signal (d0 : Dev nD) (s : Fin 8) : Prog (TpuEff nD τ sig (Elt F) Λ₀ .tc) PUnit :=
  semSignalWord (⟨peerWord d0 (BitVec.ofNat 32 s.val), peerWord_lt d0 s⟩ : Dev nD) (SemArray.scalar (sig.barrier 0 rfl) : Sems sig S_).sem 1#32

/-- Narrow the activations. -/
def castX : Prog (TpuEff nD τ sig (Elt F) Λ₀ .tc) PUnit := do
  let v95 : Vec F S512x4096 .f32 ← Prog.lift (.load arg0 (Rect.unit (s := S512x4096) ![0, 0] S512x4096.size inb_S512x4096_S512x4096_0_0).toLoadRect (View.loadsAt_vmem h_S512x4096))
  let _v98 : Vec F S512x4096 .bf16 ← Prog.lift (.load arg3 (Rect.unit (s := S512x4096) ![0, 0] S512x4096.size inb_S512x4096_S512x4096_0_0).toLoadRect (View.loadsAt_vmem h_S512x4096))
  Prog.lift (.store arg3 (Rect.unit (s := S512x4096) ![0, 0] S512x4096.size inb_S512x4096_S512x4096_0_0)
    (shapeCast S512x4096 (truncf .bf16 (shapeCast S512x4096 v95 shapeCasts_S512x4096_S512x4096 : FVec F S512x4096 .f32) bitsLt_bf16_f32 : FVec F S512x4096 .bf16) shapeCasts_S512x4096_S512x4096 : FVec F S512x4096 .bf16)
    Finset.univ (View.stores_vmem h_S512x4096 (harg3.storeExact_slice rfl _ packedbf16_S512x4096_S512x4096_0_0) (fun _ => rfl)) (.inl rfl))

/-- Start loading a tile of the weights into its slot. -/
def startW (d0 : Dev nD) (p : Fin 8 × Fin 4) : Prog (TpuEff nD τ sig (Elt F) Λ₀ .tc) PUnit :=
  Prog.lift (.enqueueDma (wTile arg1 d0 p) (.here (wSlot arg4 (slot p.2))) (.dma (wCell arg7 (slot p.2))) (View.wordExact_bits rfl) ((View.wordExact_bits rfl).reshape _ _) ⟨Or.inl rfl, trivial⟩)

/-- Wait for it. -/
def waitW (d0 : Dev nD) (p : Fin 8 × Fin 4) : Prog (TpuEff nD τ sig (Elt F) Λ₀ .tc) PUnit :=
  Prog.lift (.waitDma2 (wCell arg7 (slot p.2)) (wTile arg1 d0 p) (wSlot arg4 (slot p.2)) (View.wordExact_bits rfl) ((View.wordExact_bits rfl).reshape _ _))

/-- The product of the narrowed activations with the loaded weights. -/
def prod (x : Vec F S512x4096 .bf16) (w : Vec F S1x4096x256 .f32) : FVec F S512x256 .f32 :=
  matmul dot_S512x4096_S4096x256_S512x256_1_0_0_1_n_n none x
    (truncf .bf16 (shapeCast S4096x256 w shapeCasts_S1x4096x256_S4096x256 : FVec F S4096x256 .f32) bitsLt_bf16_f32 : FVec F S4096x256 .bf16)
    (constant S512x256 .f32 0x00000000#32 : FVec F S512x256 .f32)

/-- What is sent of it. -/
def narrow (y : FVec F S512x256 .f32) : FVec F S1x512x256 .bf16 :=
  shapeCast S1x512x256 (truncf .bf16 y bitsLt_bf16_f32 : FVec F S512x256 .bf16) shapeCasts_S512x256_S1x512x256

/-- What is received. -/
def widen (y : Vec F S1x512x1024 .bf16) : FVec F S512x1024 .f32 :=
  extf .f32 (shapeCast S512x1024 y shapeCasts_S1x512x1024_S512x1024 : FVec F S512x1024 .bf16) bitsLt_bf16_f32

def loadX : Prog (TpuEff nD τ sig (Elt F) Λ₀ .tc) (Vec F S512x4096 .bf16) :=
  Prog.lift (.load arg3 (Rect.unit (s := S512x4096) ![0, 0] S512x4096.size inb_S512x4096_S512x4096_0_0).toLoadRect (View.loadsAt_vmem h_S512x4096))
def loadW (j : Fin 2) : Prog (TpuEff nD τ sig (Elt F) Λ₀ .tc) (Vec F S1x4096x256 .f32) :=
  Prog.lift (.load arg4 (Rect.unit (s := S2x4096x256) (wOff j) S1x4096x256.size (wOff_inb j)).toLoadRect (View.loadsAt_vmem h_S1x4096x256))

/-- Put a product into its place of the send buffer. -/
def storeTile (p : Fin 8 × Fin 4) (y : FVec F S512x256 .f32) : Prog (TpuEff nD τ sig (Elt F) Λ₀ .tc) PUnit := do
  let _v161 : Vec F S1x512x256 .bf16 ← Prog.lift (.load arg5 (Rect.unit (s := S8x512x1024) (tOff p.1 p.2) S1x512x256.size (tOff_inb p.1 p.2)).toLoadRect (View.loadsAt_vmem h_S1x512x256))
  Prog.lift (.store arg5 (Rect.unit (s := S8x512x1024) (tOff p.1 p.2) S1x512x256.size (tOff_inb p.1 p.2)) (narrow y) Finset.univ (View.stores_vmem h_S1x512x256 (harg5.storeExact_slice rfl _ (tOff_packed p.1 p.2)) (fun _ => rfl)) (.inl rfl))

/-- Send it to the peer of step `s`. -/
def sendTile (d0 : Dev nD) (p : Fin 8 × Fin 4) : Prog (TpuEff nD τ sig (Elt F) Λ₀ .tc) PUnit :=
  Prog.lift (.enqueueDma (tile arg5 p) (.remote (Dev.tc (⟨peerWord d0 (BitVec.ofNat 32 p.1.val), peerWord_lt d0 p.1⟩ : Dev nD)) (tile arg6 p) (.dma (tCell arg8 p))) (.dma (tCell arg9 p)) ((harg5.wordExact_slice rfl _ (tOff_words p.1 p.2)).reshape _ _) ((harg6.wordExact_slice rfl _ (tOff_words p.1 p.2)).reshape _ _) ⟨⟨rfl, Or.inl rfl⟩, trivial⟩)

/-- One tile that is sent: start the next load, wait for this one, multiply, store and send. -/
def tileStep (d0 : Dev nD) (p : Fin 8 × Fin 4) : Prog (TpuEff nD τ sig (Elt F) Λ₀ .tc) PUnit := do
  startW arg1 arg4 arg7 d0 (next p)
  waitW arg1 arg4 arg7 d0 p
  let x ← loadX arg3
  let w ← loadW arg4 (slot p.2)
  storeTile arg5 harg5 p (prod x w)
  sendTile arg5 harg5 arg6 harg6 arg8 arg9 d0 p

/-- One tile that stays: wait, multiply, store it into the result. -/
def ownStep (d0 : Dev nD) (t : Fin 4) : Prog (TpuEff nD τ sig (Elt F) Λ₀ .tc) PUnit := do
  waitW arg1 arg4 arg7 d0 (0, t)
  let x ← loadX arg3
  let w ← loadW arg4 (slot t)
  let _v : Vec F S512x256 .f32 ← Prog.lift (.load arg2 (Rect.unit (s := S4096x1024) (ownOff d0 (256 * t.val)) S512x256.size (ownOff_inb d0 t)).toLoadRect (View.loadsAt_vmem h_S512x256))
  Prog.lift (.store arg2 (Rect.unit (s := S4096x1024) (ownOff d0 (256 * t.val)) S512x256.size (ownOff_inb d0 t)) (prod x w) Finset.univ (View.stores_vmem_bits_univ h_S512x256 rfl) (.inl rfl))

/-- Wait for one received tile. -/
def waitRecv (p : Fin 8 × Fin 4) : Prog (TpuEff nD τ sig (Elt F) Λ₀ .tc) PUnit :=
  Prog.lift (.waitDma2 (tCell arg9 p) (tile arg5 p) (tile arg6 p) ((harg5.wordExact_slice rfl _ (tOff_words p.1 p.2)).reshape _ _) ((harg6.wordExact_slice rfl _ (tOff_words p.1 p.2)).reshape _ _))

/-- Receive a whole slab and put it into the result. -/
def recvStep (d0 : Dev nD) (s : Fin 8) : Prog (TpuEff nD τ sig (Elt F) Λ₀ .tc) PUnit := do
  each tiles fun t => waitRecv arg5 harg5 arg6 harg6 arg9 (s, t)
  let v : Vec F S1x512x1024 .bf16 ← Prog.lift (.load arg6 (Rect.unit (s := S8x512x1024) (sOff s) S1x512x1024.size (sOff_inb s)).toLoadRect (View.loadsAt_vmem h_S1x512x1024))
  let _v : Vec F S512x1024 .f32 ← Prog.lift (.load arg2 (Rect.unit (s := S4096x1024) (k0_off6 d0 (BitVec.ofNat 32 s.val)) S512x1024.size (off6_inb d0 s)).toLoadRect (View.loadsAt_vmem h_S512x1024))
  Prog.lift (.store arg2 (Rect.unit (s := S4096x1024) (k0_off6 d0 (BitVec.ofNat 32 s.val)) S512x1024.size (off6_inb d0 s)) (widen v) Finset.univ (View.stores_vmem_bits_univ h_S512x1024 rfl) (.inl rfl))

/-- Wait until one tile has left. -/
def waitSend (p : Fin 8 × Fin 4) : Prog (TpuEff nD τ sig (Elt F) Λ₀ .tc) PUnit :=
  Prog.lift (.waitDma2 (tCell arg8 p) (tile arg6 p) (tile arg5 p) ((harg6.wordExact_slice rfl _ (tOff_words p.1 p.2)).reshape _ _) ((harg5.wordExact_slice rfl _ (tOff_words p.1 p.2)).reshape _ _))

/-- The whole body. -/
def body : Prog (TpuEff nD τ sig (Elt F) Λ₀ .tc) PUnit := do
  let d0 : Dev nD ← Prog.lift .deviceId
  each steps (signal d0)
  semWaitWord (SemArray.scalar (sig.barrier 0 rfl) : Sems sig S_).sem 7#32
  castX arg0 arg3 harg3
  startW arg1 arg4 arg7 d0 (1, 0)
  each sends (tileStep arg1 arg3 arg4 arg5 harg5 arg6 harg6 arg7 arg8 arg9 d0)
  each [0, 1, 2] (fun t : Fin 4 => do
    startW arg1 arg4 arg7 d0 (0, t + 1)
    ownStep arg1 arg2 arg3 arg4 arg7 d0 t)
  ownStep arg1 arg2 arg3 arg4 arg7 d0 3
  each steps (recvStep arg2 arg5 harg5 arg6 harg6 arg9 d0)
  each sends (waitSend arg5 harg5 arg6 harg6 arg8)

theorem body_eq :
    (cc0_body arg0 harg0 arg1 harg1 arg2 harg2 arg3 harg3 arg4 harg4 arg5 harg5 arg6 harg6 arg7 arg8 arg9 : Prog (TpuEff nD τ sig (Elt F) Λ₀ .tc) PUnit)
      = body arg0 arg1 arg2 arg3 harg3 arg4 arg5 harg5 arg6 harg6 arg7 arg8 arg9 := by
  chain_rfl

end

end Cert.KernelIdeal.A2A

end
-- ==== Proof.Pieces.lean ====
/-
The pieces of the buffers and what they hold.

The send and receive buffers are cut into tiles, the weight buffer into two slots and the result
into the device's own four tiles and one block of rows for each other device. This module says which
elements each piece has and what is read back after a store or a copy, and it names the contents:
the products, what is sent of them, and the finished result.
-/
module

public import proofs.«01_k».proof.Proof.Prog
public import Idealize.ShloMosaic.Lib.Pointwise.Index
public import Idealize.ShloMosaic.Lib.Pipeline.Value
public import Idealize.ShloMosaic.Lib.Pipeline.ValueKit.Geometry

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.Sem

variable {F : FTy → Type} [FloatOps F]

abbrev P : Type := Fin 8 × Fin 4

/-! ## The buffers -/

abbrev xM : Memref sig .tc .vmem S512x4096 .f32 := Memref.whole cc0_stg0_0
abbrev wM : Memref sig .tc .hbm S4096x8192 .f32 := Memref.whole main_arg1
abbrev oM : Memref sig .tc .vmem S4096x1024 .f32 := Memref.whole cc0_stg1_0
abbrev bM : Memref sig .tc .vmem S512x4096 .bf16 := Memref.whole cc0_scratch0
abbrev lM : Memref sig .tc .vmem S2x4096x256 .f32 := Memref.whole cc0_scratch1
abbrev sM : Memref sig .tc .vmem S8x512x1024 .bf16 := Memref.whole cc0_scratch2
abbrev rM : Memref sig .tc .vmem S8x512x1024 .bf16 := Memref.whole cc0_scratch3

abbrev tRect (p : P) : Rect S8x512x1024 := Rect.unit (s := S8x512x1024) (tOff p.1 p.2) S1x512x256.size (tOff_inb p.1 p.2)
abbrev sRect (s : Fin 8) : Rect S8x512x1024 := Rect.unit (s := S8x512x1024) (sOff s) S1x512x1024.size (sOff_inb s)
abbrev lRect (j : Fin 2) : Rect S2x4096x256 := Rect.unit (s := S2x4096x256) (wOff j) S1x4096x256.size (wOff_inb j)
abbrev ownRect (c : Dev nD) (t : Fin 4) : Rect S4096x1024 :=
  Rect.unit (s := S4096x1024) (ownOff c (256 * t.val)) S512x256.size (ownOff_inb c t)
abbrev rowRect (c : Dev nD) (s : Fin 8) : Rect S4096x1024 :=
  Rect.unit (s := S4096x1024) (k0_off6 c (BitVec.ofNat 32 s.val)) S512x1024.size (off6_inb c s)

/-! ## Places on the ring -/

/-- The device `s` places on, and the one `s` places back. -/
def peer (c : Dev nD) (s : Fin 8) : Dev nD := ⟨(c.val + s.val) % 8, Nat.mod_lt _ (by decide)⟩
def back (c : Dev nD) (s : Fin 8) : Dev nD := ⟨(c.val + (8 - s.val)) % 8, Nat.mod_lt _ (by decide)⟩
/-- How many places back from `c` the device `j` is. -/
def gap (c j : Dev nD) : Fin 8 := ⟨(c.val + (8 - j.val)) % 8, Nat.mod_lt _ (by decide)⟩

theorem peer_back (c : Dev nD) (s : Fin 8) : peer (back c s) s = c := by revert c s; decide
theorem back_peer (c : Dev nD) (s : Fin 8) : back (peer c s) s = c := by revert c s; decide
theorem peer_peer_neg (c : Dev nD) (s : Fin 8) : peer (peer c s) (-s) = c := by revert c s; decide
theorem back_gap (c j : Dev nD) : back c (gap c j) = j := by revert c j; decide
theorem gap_back (c : Dev nD) (s : Fin 8) : gap c (back c s) = s := by revert c s; decide
theorem back_ne (c : Dev nD) (s : Fin 8) (hs : s ≠ 0) : back c s ≠ c := by revert c s; decide
theorem gap_ne (c j : Dev nD) (hj : j ≠ c) : gap c j ≠ 0 := by revert c j; decide
theorem neg_ne (s : Fin 8) (hs : s ≠ 0) : -s ≠ 0 := by revert s; decide

theorem peer_mk (c : Dev nD) (s : Fin 8) : (⟨peerWord c (BitVec.ofNat 32 s.val), peerWord_lt c s⟩ : Dev nD) = peer c s :=
  Fin.ext (peerWord_eq c s)

/-! ## Which elements a piece has -/

/-- The tile an element of a send or receive buffer lies in. -/
def tKey (i : S8x512x1024.Idx) : P := ((i 0 : Fin 8), ⟨(i 2).val / 256, by have h : (i 2).val < 1024 := (i 2).isLt; omega⟩)

theorem mem_tRect (i : S8x512x1024.Idx) (p : P) : i ∈ (tRect p).set ↔ tKey i = p := by
  obtain ⟨s, t⟩ := p
  have h0 : (i 0).val < 8 := (i 0).isLt
  have h1 : (i 1).val < 512 := (i 1).isLt
  have h2 : (i 2).val < 1024 := (i 2).isLt
  rw [Rect.mem_set_unit, Prod.ext_iff, Fin.ext_iff, Fin.ext_iff]
  constructor
  · intro h
    have a0 := h 0
    have a2 := h 2
    change s.val ≤ (i 0).val ∧ (i 0).val < s.val + 1 at a0
    change 256 * t.val ≤ (i 2).val ∧ (i 2).val < 256 * t.val + 256 at a2
    constructor
    · show (i 0).val = s.val; omega
    · show (i 2).val / 256 = t.val; omega
  · rintro ⟨e0, e2⟩ a
    change (i 0).val = s.val at e0
    change (i 2).val / 256 = t.val at e2
    match a with
    | ⟨0, _⟩ => show s.val ≤ (i 0).val ∧ (i 0).val < s.val + 1; omega
    | ⟨1, _⟩ => show 0 ≤ (i 1).val ∧ (i 1).val < 0 + 512; omega
    | ⟨2, _⟩ => show 256 * t.val ≤ (i 2).val ∧ (i 2).val < 256 * t.val + 256; omega

theorem mem_sRect (i : S8x512x1024.Idx) (s : Fin 8) : i ∈ (sRect s).set ↔ (tKey i).1 = s := by
  have h0 : (i 0).val < 8 := (i 0).isLt
  have h1 : (i 1).val < 512 := (i 1).isLt
  have h2 : (i 2).val < 1024 := (i 2).isLt
  rw [Rect.mem_set_unit, Fin.ext_iff]
  constructor
  · intro h
    have a0 := h 0
    change s.val ≤ (i 0).val ∧ (i 0).val < s.val + 1 at a0
    show (i 0).val = s.val; omega
  · intro e0 a
    change (i 0).val = s.val at e0
    match a with
    | ⟨0, _⟩ => show s.val ≤ (i 0).val ∧ (i 0).val < s.val + 1; omega
    | ⟨1, _⟩ => show 0 ≤ (i 1).val ∧ (i 1).val < 0 + 512; omega
    | ⟨2, _⟩ => show 0 ≤ (i 2).val ∧ (i 2).val < 0 + 1024; omega

/-- The slot an element of the weight buffer lies in. -/
def lKey (i : S2x4096x256.Idx) : Fin 2 := (i 0 : Fin 2)

theorem mem_lRect (i : S2x4096x256.Idx) (j : Fin 2) : i ∈ (lRect j).set ↔ lKey i = j := by
  have h0 : (i 0).val < 2 := (i 0).isLt
  have h1 : (i 1).val < 4096 := (i 1).isLt
  have h2 : (i 2).val < 256 := (i 2).isLt
  rw [Rect.mem_set_unit, Fin.ext_iff]
  constructor
  · intro h
    have a0 := h 0
    change j.val ≤ (i 0).val ∧ (i 0).val < j.val + 1 at a0
    show (i 0).val = j.val; omega
  · intro e0 a
    change (i 0).val = j.val at e0
    match a with
    | ⟨0, _⟩ => show j.val ≤ (i 0).val ∧ (i 0).val < j.val + 1; omega
    | ⟨1, _⟩ => show 0 ≤ (i 1).val ∧ (i 1).val < 0 + 4096; omega
    | ⟨2, _⟩ => show 0 ≤ (i 2).val ∧ (i 2).val < 0 + 256; omega

/-- The device whose rows of the result an element lies in, and its tile of columns. -/
def oRow (i : S4096x1024.Idx) : Dev nD := ⟨(i 0).val / 512, by have h : (i 0).val < 4096 := (i 0).isLt; show _ < 8; omega⟩
def oCol (i : S4096x1024.Idx) : Fin 4 := ⟨(i 1).val / 256, by have h : (i 1).val < 1024 := (i 1).isLt; omega⟩
/-- The element's place within them. -/
def oIn (i : S4096x1024.Idx) : S512x256.Idx :=
  ix2 (⟨(i 0).val % 512, Nat.mod_lt _ (by decide)⟩ : Fin 512) (⟨(i 1).val % 256, Nat.mod_lt _ (by decide)⟩ : Fin 256)

theorem mem_ownRect (c : Dev nD) (t : Fin 4) (i : S4096x1024.Idx) : i ∈ (ownRect c t).set ↔ oRow i = c ∧ oCol i = t := by
  have h0 : (i 0).val < 4096 := (i 0).isLt
  have h1 : (i 1).val < 1024 := (i 1).isLt
  rw [Rect.mem_set_unit, Fin.ext_iff, Fin.ext_iff, ownOff_eq]
  constructor
  · intro h
    have a0 := h 0
    have a1 := h 1
    change 512 * c.val ≤ (i 0).val ∧ (i 0).val < 512 * c.val + 512 at a0
    change 256 * t.val ≤ (i 1).val ∧ (i 1).val < 256 * t.val + 256 at a1
    constructor
    · show (i 0).val / 512 = c.val; omega
    · show (i 1).val / 256 = t.val; omega
  · rintro ⟨e0, e1⟩ a
    change (i 0).val / 512 = c.val at e0
    change (i 1).val / 256 = t.val at e1
    match a with
    | ⟨0, _⟩ => show 512 * c.val ≤ (i 0).val ∧ (i 0).val < 512 * c.val + 512; omega
    | ⟨1, _⟩ => show 256 * t.val ≤ (i 1).val ∧ (i 1).val < 256 * t.val + 256; omega

theorem mem_rowRect (c : Dev nD) (s : Fin 8) (i : S4096x1024.Idx) : i ∈ (rowRect c s).set ↔ oRow i = back c s := by
  have h0 : (i 0).val < 4096 := (i 0).isLt
  have h1 : (i 1).val < 1024 := (i 1).isLt
  have e : k0_off6 c (BitVec.ofNat 32 s.val) = ![(back c s).val * 512, 0] := off6_eq c s
  rw [Rect.mem_set_unit, Fin.ext_iff, e]
  generalize (back c s) = j
  constructor
  · intro h
    have a0 := h 0
    change j.val * 512 ≤ (i 0).val ∧ (i 0).val < j.val * 512 + 512 at a0
    show (i 0).val / 512 = j.val; omega
  · intro e0 a
    change (i 0).val / 512 = j.val at e0
    match a with
    | ⟨0, _⟩ => show j.val * 512 ≤ (i 0).val ∧ (i 0).val < j.val * 512 + 512; omega
    | ⟨1, _⟩ => show 0 ≤ (i 1).val ∧ (i 1).val < 0 + 1024; omega

/-! ## The sets of the views -/

theorem tile_set_s (p : P) : (tile sM p).view.set = (tRect p).set := by
  show (((View.whole cc0_scratch2).slice (tRect p)).reshape _ _).set = _
  rw [View.set_reshape, View.set_slice_whole]
theorem tile_set_r (p : P) : (tile rM p).view.set = (tRect p).set := by
  show (((View.whole cc0_scratch3).slice (tRect p)).reshape _ _).set = _
  rw [View.set_reshape, View.set_slice_whole]
theorem access_set_s (p : P) : (sM.access (tRect p)).set = (tile sM p).view.set := by
  rw [tile_set_s]; exact View.set_slice_whole _ _
theorem access_set_r (s : Fin 8) : (rM.access (sRect s)).set = (sRect s).set := View.set_slice_whole _ _
theorem slot_set (j : Fin 2) : (wSlot lM j).view.set = (lRect j).set := by
  show (((View.whole cc0_scratch1).slice (lRect j)).reshape _ _).set = _
  rw [View.set_reshape, View.set_slice_whole]
theorem access_set_l (j : Fin 2) : (lM.access (lRect j)).set = (wSlot lM j).view.set := by
  rw [slot_set]; exact View.set_slice_whole _ _

/-! ## The contents -/

/-- The product of narrowed activations with a tile of the weights. -/
def prodV (x : Vec F S512x4096 .bf16) (w : Vec F S4096x256 .f32) : FVec F S512x256 .f32 :=
  matmul dot_S512x4096_S4096x256_S512x256_1_0_0_1_n_n none x (truncf .bf16 w bitsLt_bf16_f32 : FVec F S4096x256 .bf16)
    (constant S512x256 .f32 0x00000000#32 : FVec F S512x256 .f32)

section Contents

variable (x : Dev nD → Vec F S512x4096 .f32) (W : Dev nD → (main_arg1 : Ref sig .tc).ty.Contents (Elt F))

/-- The narrowed activations of a device, a tile of its weights, their product, and what is sent of it. -/
def xb (c : Dev nD) : Vec F S512x4096 .bf16 := (truncf .bf16 (x c) bitsLt_bf16_f32 : FVec F S512x4096 .bf16)
def wt (c : Dev nD) (p : P) : Vec F S4096x256 .f32 := (wTile wM c p).view.read (Elt F) (W c)
def tv (c : Dev nD) (p : P) : FVec F S512x256 .f32 := prodV (xb x c) (wt W c p)
def sv (c : Dev nD) (p : P) : FVec F S512x256 .bf16 := truncf .bf16 (tv x W c p) bitsLt_bf16_f32

/-- The finished result of a device: its own rows from its own product, the other rows from what was
    sent to it. -/
def outv (c : Dev nD) : Vec F S4096x1024 .f32 := fun i =>
  if oRow i = c then tv x W c (0, oCol i) (oIn i)
  else (extf .f32 (sv x W (oRow i) (gap c (oRow i), oCol i)) bitsLt_bf16_f32 : FVec F S512x256 .f32) (oIn i)

end Contents

/-! ## What is read back -/

/-- The stored narrowing of the activations. -/
theorem cast_eq (v : Vec F S512x4096 .f32) :
    (shapeCast S512x4096 (truncf .bf16 (shapeCast S512x4096 v shapeCasts_S512x4096_S512x4096 : FVec F S512x4096 .f32) bitsLt_bf16_f32 : FVec F S512x4096 .bf16)
      shapeCasts_S512x4096_S512x4096 : FVec F S512x4096 .bf16) = (truncf .bf16 v bitsLt_bf16_f32 : FVec F S512x4096 .bf16) := by
  rw [shapeCast_self, shapeCast_self]

/-- A product with a loaded slot is the product with what the slot holds. -/
theorem prod_slot (v : Vec F S512x4096 .bf16) (j : Fin 2) (f : (cc0_scratch1 : Ref sig .tc).ty.Contents (Elt F)) :
    prod v ((lM.access (lRect j)).read (Elt F) f) = prodV v ((wSlot lM j).view.read (Elt F) f) := rfl

/-- A product stored into a tile of the send buffer. -/
theorem read_stored (p : P) (f : (cc0_scratch2 : Ref sig .tc).ty.Contents (Elt F)) (y : FVec F S512x256 .f32) :
    (tile sM p).view.read (Elt F) ((sM.access (tRect p)).write (Elt F) f (narrow y) Finset.univ)
      = (truncf .bf16 y bitsLt_bf16_f32 : FVec F S512x256 .bf16) := by
  show shapeCast S512x256 ((sM.access (tRect p)).read (Elt F) ((sM.access (tRect p)).write (Elt F) f (narrow y) Finset.univ)) _ = _
  rw [View.read_write_univ]
  exact shapeCast_shapeCast _ _ _

/-- A received slab, read in the places of its four tiles. -/
theorem read_slab (s : Fin 8) (g : (cc0_scratch3 : Ref sig .tc).ty.Contents (Elt F)) (vs : Fin 4 → FVec F S512x256 .bf16)
    (h : ∀ t, (tile rM (s, t)).view.read (Elt F) g = vs t) (r : Fin 512) (q : Fin 1024) :
    widen ((rM.access (sRect s)).read (Elt F) g) (ix2 r q)
      = (extf .f32 (vs ⟨q.val / 256, by omega⟩) bitsLt_bf16_f32 : FVec F S512x256 .f32) (ix2 r (⟨q.val % 256, Nat.mod_lt _ (by decide)⟩ : Fin 256)) := by
  show FloatOps.extf .f32 _ (shapeCast S512x1024 ((rM.access (sRect s)).read (Elt F) g) _ (ix2 r q)) = FloatOps.extf .f32 _ (vs _ _)
  refine congrArg _ ?_
  rw [← h]
  show _ = shapeCast S512x256 ((rM.access (tRect (s, ⟨q.val / 256, by omega⟩))).read (Elt F) g) shapeCasts_S1x512x256_S512x256 _
  refine (shapeCast_dropUnit_apply ![512, 1024] _ _ _).trans (Eq.trans ?_ (shapeCast_dropUnit_apply ![512, 256] _ _ _).symm)
  refine congrArg g (funext fun a => Fin.ext ?_)
  rw [ValueKit.view_emb_slice_whole_unit_val, ValueKit.view_emb_slice_whole_unit_val]
  match a with
  | ⟨0, _⟩ => rfl
  | ⟨1, _⟩ => rfl
  | ⟨2, _⟩ => show 0 + q.val = 256 * (q.val / 256) + q.val % 256; omega

section Stores

variable (x : Dev nD → Vec F S512x4096 .f32) (W : Dev nD → (main_arg1 : Ref sig .tc).ty.Contents (Elt F))

/-- An own tile stored into the result is the finished result there. -/
theorem own_stored (c : Dev nD) (t : Fin 4) (f : (cc0_stg1_0 : Ref sig .tc).ty.Contents (Elt F)) (i : S4096x1024.Idx)
    (hi : i ∈ (ownRect c t).set) :
    (oM.access (ownRect c t)).write (Elt F) f (tv x W c (0, t)) Finset.univ i = outv x W c i := by
  have hk := (mem_ownRect c t i).mp hi
  obtain ⟨z, rfl⟩ : ∃ z, (oM.access (ownRect c t)).emb z = i := by
    have : i ∈ (oM.access (ownRect c t)).set := by rw [show (oM.access (ownRect c t)).set = _ from View.set_slice_whole _ _]; exact hi
    obtain ⟨z, -, e⟩ := Finset.mem_map.mp this
    exact ⟨z, e⟩
  rw [View.write_emb_of_mem _ _ (Finset.mem_univ _)]
  unfold outv
  rw [if_pos hk.1, hk.2]
  show tv x W c (0, t) z = tv x W c (0, t) (oIn _)
  refine congrArg _ (Shape.idx_ext₂ ?_ ?_)
  · show (z 0).val = (((oM.access (ownRect c t)).emb z) 0).val % 512
    have h0 : (z 0).val < 512 := (z 0).isLt
    rw [show (((oM.access (ownRect c t)).emb z) 0).val = ownOff c (256 * t.val) 0 + (z 0).val from
      ValueKit.view_emb_slice_whole_unit_val cc0_stg1_0 _ _ _ z 0, ownOff_eq]
    show (z 0).val = (512 * c.val + (z 0).val) % 512
    omega
  · show (z 1).val = (((oM.access (ownRect c t)).emb z) 1).val % 256
    have h0 : (z 1).val < 256 := (z 1).isLt
    rw [show (((oM.access (ownRect c t)).emb z) 1).val = ownOff c (256 * t.val) 1 + (z 1).val from
      ValueKit.view_emb_slice_whole_unit_val cc0_stg1_0 _ _ _ z 1, ownOff_eq]
    show (z 1).val = (256 * t.val + (z 1).val) % 256
    omega

/-- A received slab stored into the result is the finished result there. -/
theorem row_stored (c : Dev nD) (s : Fin 8) (hs : s ≠ 0) (f : (cc0_stg1_0 : Ref sig .tc).ty.Contents (Elt F))
    (g : (cc0_scratch3 : Ref sig .tc).ty.Contents (Elt F))
    (h : ∀ t, (tile rM (s, t)).view.read (Elt F) g = sv x W (back c s) (s, t)) (i : S4096x1024.Idx)
    (hi : i ∈ (rowRect c s).set) :
    (oM.access (rowRect c s)).write (Elt F) f (widen ((rM.access (sRect s)).read (Elt F) g)) Finset.univ i = outv x W c i := by
  have hk := (mem_rowRect c s i).mp hi
  obtain ⟨z, rfl⟩ : ∃ z, (oM.access (rowRect c s)).emb z = i := by
    have : i ∈ (oM.access (rowRect c s)).set := by rw [show (oM.access (rowRect c s)).set = _ from View.set_slice_whole _ _]; exact hi
    obtain ⟨z, -, e⟩ := Finset.mem_map.mp this
    exact ⟨z, e⟩
  have e0 : (((oM.access (rowRect c s)).emb z) 0).val = (back c s).val * 512 + (z 0).val := by
    rw [show (((oM.access (rowRect c s)).emb z) 0).val = k0_off6 c (BitVec.ofNat 32 s.val) 0 + (z 0).val from
      ValueKit.view_emb_slice_whole_unit_val cc0_stg1_0 _ _ _ z 0, off6_eq]; rfl
  have e1 : (((oM.access (rowRect c s)).emb z) 1).val = (z 1).val := by
    rw [show (((oM.access (rowRect c s)).emb z) 1).val = k0_off6 c (BitVec.ofNat 32 s.val) 1 + (z 1).val from
      ValueKit.view_emb_slice_whole_unit_val cc0_stg1_0 _ _ _ z 1, off6_eq]; exact Nat.zero_add _
  rw [View.write_emb_of_mem _ _ (Finset.mem_univ _)]
  unfold outv
  rw [if_neg (by rw [hk]; exact back_ne c s hs), hk, gap_back]
  obtain ⟨r, q, hz⟩ : ∃ (r : Fin 512) (q : Fin 1024), z = ix2 r q := ⟨z 0, z 1, (ix2_eta (n0 := 512) (n1 := 1024) z).symm⟩
  subst hz
  change _ = (back c s).val * 512 + r.val at e0
  change _ = q.val at e1
  refine (read_slab s g _ h r q).trans ?_
  have ec : oCol ((oM.access (rowRect c s)).emb (ix2 r q)) = ⟨q.val / 256, by omega⟩ :=
    Fin.ext (by show (((oM.access (rowRect c s)).emb (ix2 r q)) 1).val / 256 = _; rw [e1])
  rw [ec]
  refine congrArg _ (Shape.idx_ext₂ ?_ ?_)
  · show r.val = (((oM.access (rowRect c s)).emb (ix2 r q)) 0).val % 512
    rw [e0]; omega
  · show q.val % 256 = (((oM.access (rowRect c s)).emb (ix2 r q)) 1).val % 256
    rw [e1]

end Stores

end Cert.KernelIdeal.A2A

end
-- ==== Proof.Sched.lean ====
/-
The protocol of the kernel.

Every device meets the others on three kinds of semaphores. On a device's barrier semaphore each of
the seven others signals one unit; with it comes the slab of the signaller's receive buffer that this
device will fill. On receive semaphore `(s, t)` the copy from the device `s` places back lands, and
hands over the tile with that device's product in it. On send semaphore `(s, t)` the device's own copy
reports that it has left, and hands back the tile of the send buffer. Each of them is used once.
-/
module

public import proofs.«01_k».proof.Proof.Pieces
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Transfers
public import Idealize.ShloMosaic.Lib.Ring

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds, the protocol's rounds, the counters of the local copies -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL

/-- Where the protocol's rounds lie in the whole resource. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

omit [FloatOps F] in
instance ER_landsIn : (ER (F := F)).LandsIn (upEmb : UEmb _ 𝕄) := by unfold ER; infer_instance

abbrev 𝒱₀ : Variants := Variants.none

/-! ## The cells -/

abbrev barS : Sem sig := (SemArray.scalar (sig.barrier 0 rfl) : Sems sig S_).sem
abbrev wS (j : Fin 2) : DmaSem sig := wCell cc0_scratch4 j
abbrev sS (p : P) : DmaSem sig := tCell cc0_scratch5 p
abbrev rS (p : P) : DmaSem sig := tCell cc0_scratch6 p

/-- The protocol's semaphores: barrier, sends, receives. -/
abbrev Ck : Type := Unit ⊕ (P ⊕ P)
def csem : Ck → SemLoc sig
  | .inl _ => .reg barS
  | .inr (.inl p) => .dma (sS p)
  | .inr (.inr p) => .dma (rS p)

/-- The place of a number in an eight by four array. -/
def place (n : Nat) : P := (⟨n / 4 % 8, Nat.mod_lt _ (by decide)⟩, ⟨n % 4, Nat.mod_lt _ (by decide)⟩)

/-- Which of them a semaphore is. -/
def decode : SemLoc sig → Option Ck
  | .reg s => if s = barS then some (.inl ()) else none
  | .dma d => if d.val < 4 then none else if d.val < 36 then some (.inr (.inl (place (d.val - 4)))) else some (.inr (.inr (place (d.val - 36))))

theorem sS_val (p : P) : (sS p).val = 4 + (4 * p.1.val + p.2.val) := by revert p; decide +kernel
theorem rS_val (p : P) : (rS p).val = 36 + (4 * p.1.val + p.2.val) := by revert p; decide +kernel
theorem wS_val (j : Fin 2) : (wS j).val = 2 + j.val := by revert j; decide +kernel

theorem place_eq (p : P) : place (4 * p.1.val + p.2.val) = p := by
  obtain ⟨s, t⟩ := p
  refine Prod.ext (Fin.ext ?_) (Fin.ext ?_)
  · show (4 * s.val + t.val) / 4 % 8 = s.val; omega
  · show (4 * s.val + t.val) % 4 = t.val; omega

theorem decode_bar : decode (.reg barS) = some (.inl ()) := by dsimp only [decode]; exact if_pos rfl
theorem decode_send (p : P) : decode (.dma (sS p)) = some (.inr (.inl p)) := by
  have h := sS_val p
  obtain ⟨s, t⟩ := p
  dsimp only [decode]
  rw [if_neg (by omega), if_pos (by rw [h]; show 4 + (4 * s.val + t.val) < 36; omega), h, Nat.add_sub_cancel_left, place_eq]
theorem decode_recv (p : P) : decode (.dma (rS p)) = some (.inr (.inr p)) := by
  have h := rS_val p
  dsimp only [decode]
  rw [if_neg (by omega), if_neg (by omega), h, Nat.add_sub_cancel_left, place_eq]
theorem decode_low (d : DmaSem sig) (h : d.val < 4) : decode (.dma d) = none := if_pos h
theorem decode_csem (k : Ck) : decode (csem k) = some k := by
  rcases k with ⟨⟩ | p | p
  · exact decode_bar
  · exact decode_send p
  · exact decode_recv p

abbrev barCell (c : Dev nD) : GSem nD τ sig := ((c : Thread nD τ), .reg barS)
abbrev sCell (c : Dev nD) (p : P) : GSem nD τ sig := ((c : Thread nD τ), .dma (sS p))
abbrev rCell (c : Dev nD) (p : P) : GSem nD τ sig := ((c : Thread nD τ), .dma (rS p))
abbrev kcell (ck : Dev nD × Ck) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : csem k = csem k' := congrArg Prod.snd h
  have h3 : some k = some k' := by rw [← decode_csem k, ← decode_csem k', h2]
  rw [h1, Option.some.inj h3]

/-- The credit of one tile. -/
abbrev N : ℕ := (tile rM (0, 0)).view.dmaCredit
theorem N_pos : 0 < N := View.dmaCredit_pos _ (by decide)

/-! ## The pieces as resources -/

/-- A tile of a buffer with whatever it holds. -/
def sFree (c : Dev nD) (p : P) : sProp 𝕄 :=
  iprop(∃ f : Buf (Elt F) ((tile sM p).view.loc (c : Thread nD τ)), (tile sM p).view.loc (c : Thread nD τ) ↦[(tile sM p).view.set]{fullShare} f)
def rFree (c : Dev nD) (p : P) : sProp 𝕄 :=
  iprop(∃ f : Buf (Elt F) ((tile rM p).view.loc (c : Thread nD τ)), (tile rM p).view.loc (c : Thread nD τ) ↦[(tile rM p).view.set]{fullShare} f)

omit [FloatOps F] in
instance rFree_storable (c : Dev nD) (p : P) : BI.Storable (upEmb : UEmb _ 𝕄) (rFree (F := F) c p) := by unfold rFree; infer_instance

section Sch

variable (x : Dev nD → Vec F S512x4096 .f32) (W : Dev nD → (main_arg1 : Ref sig .tc).ty.Contents (Elt F))

/-- A tile of the send buffer with the product in it, and one of the receive buffer with the sender's product. -/
def sFull (c : Dev nD) (p : P) : sProp 𝕄 := owns (c : Thread nD τ) (tile sM p) fullShare (sv x W c p)
def rFull (c : Dev nD) (p : P) : sProp 𝕄 := owns (c : Thread nD τ) (tile rM p) fullShare (sv x W (back c p.1) p)

instance sFull_storable (c : Dev nD) (p : P) : BI.Storable (upEmb : UEmb _ 𝕄) (sFull x W c p) := by unfold sFull; infer_instance
instance rFull_storable (c : Dev nD) (p : P) : BI.Storable (upEmb : UEmb _ 𝕄) (rFull x W c p) := by unfold rFull; infer_instance

/-- The slab that the device `d` places on lends to `c`. -/
def slab (c : Dev nD) (d : Fin 8) : sProp 𝕄 := bigSep Finset.univ fun t : Fin 4 => rFree (F := F) (peer c d) (d, t)

omit [FloatOps F] in
instance slab_storable (c : Dev nD) (d : Fin 8) : BI.Storable (upEmb : UEmb _ 𝕄) (slab (F := F) c d) := by unfold slab; infer_instance

/-! ## The schedule -/

/-- The other seven. -/
abbrev S7 : Finset (Fin 8) := Finset.univ.erase 0

def dutiesOf : Option Ck → Finset (Fin 8)
  | some (.inl _) => S7
  | some (.inr (.inl p)) => if p.1 = 0 then ∅ else {0}
  | some (.inr (.inr p)) => if p.1 = 0 then ∅ else {0}
  | none => ∅

def payOf (c : Dev nD) (d : Fin 8) : Option Ck → sProp 𝕄
  | some (.inl _) => slab (F := F) c d
  | some (.inr (.inl p)) => sFull x W c p
  | some (.inr (.inr p)) => rFull x W c p
  | none => iprop(emp)

def Sch : Rounds.Schedule (GSem nD τ sig) (Fin 8) 𝕄 where
  duties g r := if r = 0 ∧ g.1.2 = .tc then dutiesOf (decode g.2) else ∅
  unitless _ := False
  amount g _ _ := if decode g.2 = some (.inl ()) then 1 else N
  payload g _ d := payOf x W g.1.1 d (decode g.2)
  amount_pos g _ _ _ := by
    by_cases h : decode g.2 = some (.inl ())
    · rw [if_pos h]; exact Nat.one_pos
    · rw [if_neg h]; exact N_pos

instance payOf_storable (c : Dev nD) (d : Fin 8) (k : Option Ck) : BI.Storable (upEmb : UEmb _ 𝕄) (payOf x W c d k) := by
  rcases k with _ | ⟨⟩ | p | p <;> unfold payOf <;> infer_instance
instance Sch_storable (g : GSem nD τ sig) (r : ℕ) (d : Fin 8) : BI.Storable (upEmb : UEmb _ 𝕄) ((Sch x W).payload g r d) := by
  show BI.Storable upEmb (payOf x W g.1.1 d (decode g.2)); infer_instance

section Tables
variable (c : Dev nD)

theorem duties_bar : (Sch x W).duties (barCell c) 0 = S7 := by
  dsimp only [Sch]; rw [if_pos ⟨rfl, rfl⟩, decode_bar]; rfl
theorem duties_send (p : P) (h : p.1 ≠ 0) : (Sch x W).duties (sCell c p) 0 = {0} := by
  dsimp only [Sch]; rw [if_pos ⟨rfl, rfl⟩, decode_send]; exact if_neg h
theorem duties_recv (p : P) (h : p.1 ≠ 0) : (Sch x W).duties (rCell c p) 0 = {0} := by
  dsimp only [Sch]; rw [if_pos ⟨rfl, rfl⟩, decode_recv]; exact if_neg h
theorem duties_later (g : GSem nD τ sig) : ∀ r, 1 ≤ r → (Sch x W).duties g r = ∅ := fun r hr => by dsimp only [Sch]; exact if_neg fun h => by omega
theorem duties_own_send (t : Fin 4) : ∀ r, 0 ≤ r → (Sch x W).duties (sCell c (0, t)) r = ∅ := fun r _ => by
  dsimp only [Sch]
  rw [decode_send]; exact (ite_self _)
theorem duties_own_recv (t : Fin 4) : ∀ r, 0 ≤ r → (Sch x W).duties (rCell c (0, t)) r = ∅ := fun r _ => by
  dsimp only [Sch]
  rw [decode_recv]; exact (ite_self _)

theorem amount_bar (d : Fin 8) : (Sch x W).amount (barCell c) 0 d = 1 := by dsimp only [Sch]; exact if_pos decode_bar
theorem amount_send (p : P) (d : Fin 8) : (Sch x W).amount (sCell c p) 0 d = N :=
  if_neg (by show decode (.dma (sS p)) ≠ _; rw [decode_send]; intro h; cases h)
theorem amount_recv (p : P) (d : Fin 8) : (Sch x W).amount (rCell c p) 0 d = N :=
  if_neg (by show decode (.dma (rS p)) ≠ _; rw [decode_recv]; intro h; cases h)

theorem expect_bar : (Sch x W).expect (barCell c) 0 = 7 := by
  unfold Schedule.expect Schedule.amountOf
  rw [duties_bar, Finset.sum_congr rfl fun d _ => amount_bar x W c d]; rfl
theorem expect_send (p : P) (h : p.1 ≠ 0) : (Sch x W).expect (sCell c p) 0 = N := by
  unfold Schedule.expect Schedule.amountOf; rw [duties_send x W c p h, Finset.sum_singleton, amount_send]
theorem expect_recv (p : P) (h : p.1 ≠ 0) : (Sch x W).expect (rCell c p) 0 = N := by
  unfold Schedule.expect Schedule.amountOf; rw [duties_recv x W c p h, Finset.sum_singleton, amount_recv]

theorem payload_bar (d : Fin 8) : (Sch x W).payload (barCell c) 0 d = slab (F := F) c d := by
  show payOf x W c d (decode (.reg barS)) = _; rw [decode_bar]; rfl
theorem payload_send (p : P) (d : Fin 8) : (Sch x W).payload (sCell c p) 0 d = sFull x W c p := by
  show payOf x W c d (decode (.dma (sS p))) = _; rw [decode_send]; rfl
theorem payload_recv (p : P) (d : Fin 8) : (Sch x W).payload (rCell c p) 0 d = rFull x W c p := by
  show payOf x W c d (decode (.dma (rS p))) = _; rw [decode_recv]; rfl

theorem rest_bar : bigSep ((Sch x W).duties (barCell c) 0 \ ∅) (fun d => (Sch x W).payload (barCell c) 0 d) = bigSep S7 fun d => slab (F := F) c d := by
  rw [Finset.sdiff_empty, duties_bar]; exact bigSep_congr fun d _ => payload_bar x W c d
theorem rest_send (p : P) (h : p.1 ≠ 0) :
    bigSep ((Sch x W).duties (sCell c p) 0 \ ∅) (fun d => (Sch x W).payload (sCell c p) 0 d) = sFull x W c p := by
  rw [Finset.sdiff_empty, duties_send x W c p h, bigSep_singleton, payload_send]
theorem rest_recv (p : P) (h : p.1 ≠ 0) :
    bigSep ((Sch x W).duties (rCell c p) 0 \ ∅) (fun d => (Sch x W).payload (rCell c p) 0 d) = rFull x W c p := by
  rw [Finset.sdiff_empty, duties_recv x W c p h, bigSep_singleton, payload_recv]

end Tables

end Sch

/-! ## What a device owes, and the levels -/

/-- The copies still to be made, and the signals still to be given. -/
def owedSend (c : Dev nD) : List P → CellTallies nD τ sig Unit
  | [] => 0
  | p :: l => owedSend c l + tallyAt (rCell (peer c p.1) p) () N
def owedSig (c : Dev nD) : List (Fin 8) → CellTallies nD τ sig Unit
  | [] => owedSend c sends
  | s :: l => owedSig c l + tallyAt (barCell (peer c s)) () 1
def O₀ (c : Dev nD) : CellTallies nD τ sig Unit := owedSig c steps

def L (g : GSem nD τ sig) : Finset Unit := if g.1.2 = .tc then {()} else ∅
def lvOf : Option Ck → ℕ
  | some (.inl _) => 1
  | some (.inr (.inr _)) => 2
  | _ => 0
/-- Barrier cells at one, receive cells at two, the rest at zero. -/
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl

theorem owedSend_pos (c : Dev nD) (l : List P) {g : GSem nD τ sig} {u : Unit} (h : 0 < owedSend c l g u) : ∃ d p, g = rCell d p := by
  induction l with
  | nil => exact absurd h (Nat.lt_irrefl 0)
  | cons p l ih =>
    unfold owedSend at h
    rw [Pi.add_apply, Finsupp.add_apply, tallyAt_apply] at h
    by_cases hg : g = rCell (peer c p.1) p ∧ u = ()
    · exact ⟨_, _, hg.1⟩
    · rw [if_neg hg] at h; exact ih h

theorem owedSig_pos (c : Dev nD) (l : List (Fin 8)) {g : GSem nD τ sig} {u : Unit} (h : 0 < owedSig c l g u) :
    (∃ d, g = barCell d) ∨ ∃ d p, g = rCell d p := by
  induction l with
  | nil => exact Or.inr (owedSend_pos c _ h)
  | cons s l ih =>
    unfold owedSig at h
    rw [Pi.add_apply, Finsupp.add_apply, tallyAt_apply] at h
    by_cases hg : g = barCell (peer c s) ∧ u = ()
    · exact Or.inl ⟨_, hg.1⟩
    · rw [if_neg hg] at h; exact ih h

theorem lv_bar (d : Dev nD) : lv (barCell d) () = 1 := by
  show lvOf (decode (.reg barS)) = 1; rw [decode_bar]; rfl
theorem lv_recv (d : Dev nD) (p : P) : lv (rCell d p) () = 2 := by
  show lvOf (decode (.dma (rS p))) = 2; rw [decode_recv]; rfl
theorem lv_low (d : Dev nD) (q : DmaSem sig) (h : q.val < 4) : lv ((d : Thread nD τ), .dma q) () = 0 := by
  show lvOf (decode (.dma q)) = 0; rw [decode_low q h]; rfl

omit [FloatOps F] in
/-- A wait on a low semaphore while copies are owed. -/
theorem mayWait_low (c : Dev nD) (q : DmaSem sig) (hq : q.val < 4) (l : List P) :
    (levAts L lv : sProp 𝕄) ⊢ MayWait (c : Thread nD τ) (.dma q) () (owedSend c l) :=
  MayOwe.of_cut (L := L) (lev := lv) 0 (fun p hp => by rw [Finset.mem_singleton.mp hp, L_tc]; exact Finset.mem_singleton_self _)
    (fun g u hg => by obtain ⟨d, p, rfl⟩ := owedSend_pos c l hg; exact Finset.mem_singleton_self _)
    (fun p hp => by rw [Finset.mem_singleton.mp hp]; exact (lv_low c q hq).le)
    (fun g u hg => by obtain ⟨d, p, rfl⟩ := owedSend_pos c l hg; cases u; rw [lv_recv]; decide)

omit [FloatOps F] in
/-- The wait on the barrier while copies are owed. -/
theorem mayWait_bar (c : Dev nD) (l : List P) :
    (levAts L lv : sProp 𝕄) ⊢ MayWait (c : Thread nD τ) (.reg barS) () (owedSend c l) :=
  MayOwe.of_cut (L := L) (lev := lv) 1 (fun p hp => by rw [Finset.mem_singleton.mp hp, L_tc]; exact Finset.mem_singleton_self _)
    (fun g u hg => by obtain ⟨d, p, rfl⟩ := owedSend_pos c l hg; exact Finset.mem_singleton_self _)
    (fun p hp => by rw [Finset.mem_singleton.mp hp]; exact (lv_bar c).le)
    (fun g u hg => by obtain ⟨d, p, rfl⟩ := owedSend_pos c l hg; cases u; rw [lv_recv]; decide)

omit [FloatOps F] in
/-- The waits of the pipeline at launch and at the end. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases owedSig_pos c steps hg with ⟨d, rfl⟩ | ⟨d, p, rfl⟩ <;> exact Finset.mem_singleton_self _)
      (fun p hp => by rw [Finset.mem_singleton.mp hp]; exact (lv_low c q hq).le)
      (fun g u hg => by
        cases u
        rcases owedSig_pos c steps hg with ⟨d, rfl⟩ | ⟨d, p, rfl⟩
        · rw [lv_bar]; decide
        · rw [lv_recv]; decide)
  · rw [MayWait_zero]; iintro -; iempintro

end Cert.KernelIdeal.A2A

end
-- ==== Proof.Steps.lean ====
/-
One rule for each step that talks to another device, and the rule for running a step once for every
item of a list. A rule takes what the step needs and, for whatever comes after it, gives what the step
leaves behind.
-/
module

public import proofs.«01_k».proof.Proof.Sched

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The weakest precondition of a program of device `c`. -/
abbrev WP {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-- What a device owes, whatever it has waited for. -/
def Ow (c : Dev nD) (O : CellTallies nD τ sig Unit) : sProp 𝕄 := iprop(∃ V : Waits sig Unit, owes (c : Thread nD τ) O V)

omit [FloatOps F] in
theorem sep_insert {A : Type} [DecidableEq A] {s : Finset A} {a : A} (h : a ∉ s) {Φ : A → sProp 𝕄} :
    bigSep (insert a s) Φ = iprop(Φ a ∗ bigSep s Φ) := bigSep_insert h

/-! ## Running a step for every item of a list -/

theorem wp_each {A α : Type} [DecidableEq A] (c : Dev nD) (R : sProp 𝕄) [BI.Persistent R]
    (f : A → Prog (TpuEff nD τ sig (Elt F) Λ₀ .tc) PUnit) (Res Out : A → sProp 𝕄) (I : List A → sProp 𝕄) (full : List A) {Q : α → sProp 𝕄}
    (hf : ∀ a l, (a :: l) <:+ full → ∀ k : PUnit → Prog (TpuEff nD τ sig (Elt F) Λ₀ .tc) α,
      iprop(R ∗ Res a ∗ I (a :: l)) ⊢ iprop(((Out a ∗ I l) -∗ WP c (k ⟨⟩) Q) -∗ WP c (f a >>= k) Q)) :
    ∀ l, l <:+ full → l.Nodup → ∀ k : PUnit → Prog (TpuEff nD τ sig (Elt F) Λ₀ .tc) α,
      iprop(R ∗ bigSep l.toFinset Res ∗ I l) ⊢ iprop(((bigSep l.toFinset Out ∗ I []) -∗ WP c (k ⟨⟩) Q) -∗ WP c (each l f >>= k) Q) := by
  intro l
  induction l with
  | nil =>
    intro _ _ k
    show iprop(R ∗ bigSep ∅ Res ∗ I []) ⊢ iprop(((bigSep ∅ Out ∗ I []) -∗ WP c (k ⟨⟩) Q) -∗ WP c (k ⟨⟩) Q)
    rw [bigSep_empty, bigSep_empty]
    iintro ⟨-, -, HI⟩ Hk
    iapply Hk
    isplitr; · iempintro
    iexact HI
  | cons a l ih =>
    intro hs hn k
    have hsl : l <:+ full := (List.suffix_cons a l).trans hs
    have ha : a ∉ l.toFinset := fun h => (List.nodup_cons.mp hn).1 (List.mem_toFinset.mp h)
    rw [List.toFinset_cons, sep_insert ha, sep_insert ha, show (each (a :: l) f >>= k) = (f a >>= fun _ => each l f >>= k) from bind_assoc _ _ _]
    iintro ⟨#HR, ⟨Ha, Hl⟩, HI⟩ Hk
    iapply (hf a l hs (fun _ => each l f >>= k)) $$ [Ha HI]
    · isplitr; · iexact HR
      isplitl [Ha] <;> iassumption
    iintro ⟨Ho, HI⟩
    iapply (ih hsl (List.nodup_cons.mp hn).2 k) $$ [Hl HI]
    · isplitr; · iexact HR
      isplitl [Hl] <;> iassumption
    iintro ⟨Hos, HI⟩
    iapply Hk
    isplitl [Ho Hos]
    · isplitl [Ho] <;> iassumption
    iexact HI

/-! ## The records every device has -/

section Rec

variable (x : Dev nD → Vec F S512x4096 .f32) (W : Dev nD → (main_arg1 : Ref sig .tc).ty.Contents (Elt F)) (K : Dev nD × Ck → ℕ)

/-- The invariants of all cells, that their only round is open, and the levels. -/
def Rec : sProp 𝕄 :=
  iprop((bigSep Finset.univ fun ck : Dev nD × Ck => cellInv ER (Sch x W) (K ck) (kcell ck))
    ∗ (bigSep Finset.univ fun ck : Dev nD × Ck => reached ER (kcell ck) 0) ∗ levAts L lv)

instance Rec_persistent : BI.Persistent (Rec x W K) := by unfold Rec; infer_instance

theorem Rec_inv (ck : Dev nD × Ck) : Rec x W K ⊢ cellInv ER (Sch x W) (K ck) (kcell ck) := by
  unfold Rec; iintro ⟨H, -, -⟩
  iapply (show (bigSep Finset.univ fun ck : Dev nD × Ck => cellInv ER (Sch x W) (K ck) (kcell ck)) ⊢ cellInv ER (Sch x W) (K ck) (kcell ck) from bigSep_elim (Finset.mem_univ ck))
  iexact H
theorem Rec_reached (ck : Dev nD × Ck) : Rec x W K ⊢ reached ER (kcell ck) 0 := by
  unfold Rec; iintro ⟨-, H, -⟩
  iapply (show (bigSep Finset.univ fun ck : Dev nD × Ck => (reached ER (kcell ck) 0 : sProp 𝕄)) ⊢ reached ER (kcell ck) 0 from bigSep_elim (Finset.mem_univ ck))
  iexact H
theorem Rec_lev : Rec x W K ⊢ levAts L lv := by
  unfold Rec; iintro ⟨-, -, H⟩; iexact H

/-! ## The signals and the wait on the barrier -/

/-- What step `s` of the signals needs: the duty's token, and the slab that is lent with it. -/
def sigRes (c : Dev nD) (s : Fin 8) : sProp 𝕄 :=
  iprop(dutyTok ER (barCell (peer c s)) 0 (-s) ∗ bigSep Finset.univ fun t : Fin 4 => rFree (F := F) c (-s, t))

theorem wp_sig {α : Type} (c : Dev nD) (s : Fin 8) (l : List (Fin 8)) (hs : s ≠ 0) {Q : α → sProp 𝕄}
    (k : PUnit → Prog (TpuEff nD τ sig (Elt F) Λ₀ .tc) α) :
    iprop(Rec x W K ∗ sigRes c s ∗ Ow c (owedSig c (s :: l)))
      ⊢ iprop(((iprop(emp) ∗ Ow c (owedSig c l)) -∗ WP c (k ⟨⟩) Q) -∗ WP c (signal c s >>= k) Q) := by
  unfold signal sigRes Ow
  simp only [semSignalWord, Prog.lift, Prog.bind_op, Prog.bind_ret, Prog.pure_eq_ret, peer_mk]
  iintro ⟨#HR, ⟨Ht, Hs⟩, ⟨%V, HO⟩⟩ Hk
  iapply (Rounds.wp_signal 𝒱₀ ER (Sch x W) (c : Thread nD τ) none (dst := (peer c s : Thread nD τ)) (κ := K (peer c s, .inl ()))
      (d := -s) (by rw [duties_bar]; exact Finset.mem_erase.mpr ⟨neg_ne s hs, Finset.mem_univ _⟩) ((amount_bar x W (peer c s) (-s)).trans (by decide)) () (owedSig c l) rfl)
    $$ [HO Ht Hs]
  · isplitr; · iapply (Rec_inv x W K (peer c s, .inl ())); iexact HR
    isplitl [HO]; · iexact HO
    isplitl [Ht]; · iexact Ht
    isplitl [Hs]
    · rw [payload_bar]; unfold slab; rw [peer_peer_neg]; iexact Hs
    iapply (Rec_reached x W K (peer c s, .inl ())); iexact HR
  iintro HO
  iapply Hk
  isplitr; · iempintro
  iexists V; iexact HO

theorem wp_bar {α : Type} (c : Dev nD) {Q : α → sProp 𝕄} (k : PUnit → Prog (TpuEff nD τ sig (Elt F) Λ₀ .tc) α) :
    iprop(Rec x W K ∗ cred (tallyAt (barCell c) () 7) ∗ atPos ER (barCell c) 0 ∅ 0 ∗ Ow c (owedSend c sends))
      ⊢ iprop(((bigSep S7 (fun d => slab (F := F) c d) ∗ semVal (barCell c) 0 ∗ Ow c (owedSend c sends)) -∗ WP c (k ⟨⟩) Q)
          -∗ WP c (semWaitWord (SemArray.scalar (sig.barrier 0 rfl) : Sems sig S_).sem 7#32 >>= k) Q) := by
  unfold Ow
  simp only [semWaitWord, Prog.lift, Prog.bind_op, Prog.bind_ret, Prog.pure_eq_ret]
  iintro ⟨#HR, Hc, Hat, ⟨%V, HO⟩⟩ Hk
  iapply (Rounds.wp_wait_rest_token 𝒱₀ ER (Sch x W) (c : Thread nD τ) none (κ := K (c, .inl ()))
      (wpE_semWait_eq 𝒱₀ (c : Thread nD τ) none Set.univ) (Set.mem_univ _) () (O := owedSend c sends) (W := V) (R := 0) (m := 0) (T := ∅)
      (by rw [expect_bar]; decide)) $$ [Hc HO Hat]
  · isplitr; · iapply (Rec_inv x W K (c, .inl ())); iexact HR
    isplitl [Hc]; · iexact Hc
    isplitl [HO]; · iexact HO
    isplitr; · iapply (mayWait_bar (F := F) c sends); iapply (Rec_lev x W K); iexact HR
    iexact Hat
  iintro ⟨HO, Hat, -, Hpay⟩
  ihave Hp := (Entails.of_eq (rest_bar x W c)) $$ Hpay
  imod (Rounds.cell_close ER (Sch x W) (Set.mem_univ (K (c, .inl ()))) (fun h => h) (R := 0 + 1) (duties_later x W (barCell c))) $$ [Hat] with HzB
  · isplitr; · iapply (Rec_inv x W K (c, .inl ())); iexact HR
    iexact Hat
  iapply Hk
  isplitl [Hp]; · iexact Hp
  isplitl [HzB]; · iexact HzB
  iexists _; iexact HO

/-! ## The waits of the remote copies -/

/-- What a wait for a tile needs: its credit and its place. -/
def waitRes (g : GSem nD τ sig) : sProp 𝕄 := iprop(cred (tallyAt g () N) ∗ atPos ER g 0 ∅ 0)

theorem wp_waitRecv {α : Type} (c : Dev nD) (p : P) (hp : p.1 ≠ 0) {Q : α → sProp 𝕄} (k : PUnit → Prog (TpuEff nD τ sig (Elt F) Λ₀ .tc) α)
    (h5 : (sM : Memref sig .tc .vmem S8x512x1024 .bf16).IsWhole) (h6 : (rM : Memref sig .tc .vmem S8x512x1024 .bf16).IsWhole) :
    iprop(Rec x W K ∗ waitRes (F := F) (rCell c p) ∗ Ow c 0)
      ⊢ iprop((((semVal (rCell c p) 0 ∗ rFull x W c p) ∗ Ow c 0) -∗ WP c (k ⟨⟩) Q) -∗ WP c (waitRecv sM h5 rM h6 cc0_scratch6 p >>= k) Q) := by
  unfold waitRecv Ow waitRes
  simp only [Prog.lift, Prog.bind_op, Prog.bind_ret]
  iintro ⟨#HR, ⟨Hc, Hat⟩, ⟨%V, HO⟩⟩ Hk
  iapply (Rounds.wp_wait_rest_token 𝒱₀ ER (Sch x W) (c : Thread nD τ) none (κ := K (c, .inr (.inr p)))
      (wpE_waitDma2_eq 𝒱₀ (c : Thread nD τ) none Set.univ) (Set.mem_univ _) () (O := 0) (W := V) (R := 0) (m := 0) (T := ∅)
      (by rw [Nat.zero_add, expect_recv x W c p hp])) $$ [Hc HO Hat]
  · isplitr; · iapply (Rec_inv x W K (c, .inr (.inr p))); iexact HR
    isplitl [Hc]; · iexact Hc
    isplitl [HO]; · iexact HO
    isplitr; · rw [MayWait_zero]; iempintro
    iexact Hat
  iintro ⟨HO, Hat, -, Hpay⟩
  ihave Hp := (Entails.of_eq (rest_recv x W c p hp)) $$ Hpay
  imod (Rounds.cell_close ER (Sch x W) (Set.mem_univ (K (c, .inr (.inr p)))) (fun h => h) (R := 0 + 1) (duties_later x W (rCell c p))) $$ [Hat] with Hz
  · isplitr; · iapply (Rec_inv x W K (c, .inr (.inr p))); iexact HR
    iexact Hat
  iapply Hk
  isplitl [Hp Hz]
  · isplitl [Hz] <;> iassumption
  iexists _; iexact HO

theorem wp_waitSend {α : Type} (c : Dev nD) (p : P) (hp : p.1 ≠ 0) {Q : α → sProp 𝕄} (k : PUnit → Prog (TpuEff nD τ sig (Elt F) Λ₀ .tc) α)
    (h5 : (sM : Memref sig .tc .vmem S8x512x1024 .bf16).IsWhole) (h6 : (rM : Memref sig .tc .vmem S8x512x1024 .bf16).IsWhole) :
    iprop(Rec x W K ∗ waitRes (F := F) (sCell c p) ∗ Ow c 0)
      ⊢ iprop((((semVal (sCell c p) 0 ∗ sFull x W c p) ∗ Ow c 0) -∗ WP c (k ⟨⟩) Q) -∗ WP c (waitSend sM h5 rM h6 cc0_scratch5 p >>= k) Q) := by
  unfold waitSend Ow waitRes
  simp only [Prog.lift, Prog.bind_op, Prog.bind_ret]
  iintro ⟨#HR, ⟨Hc, Hat⟩, ⟨%V, HO⟩⟩ Hk
  iapply (Rounds.wp_wait_rest_token 𝒱₀ ER (Sch x W) (c : Thread nD τ) none (κ := K (c, .inr (.inl p)))
      (wpE_waitDma2_eq 𝒱₀ (c : Thread nD τ) none Set.univ) (Set.mem_univ _) () (O := 0) (W := V) (R := 0) (m := 0) (T := ∅)
      (by rw [Nat.zero_add, expect_send x W c p hp])) $$ [Hc HO Hat]
  · isplitr; · iapply (Rec_inv x W K (c, .inr (.inl p))); iexact HR
    isplitl [Hc]; · iexact Hc
    isplitl [HO]; · iexact HO
    isplitr; · rw [MayWait_zero]; iempintro
    iexact Hat
  iintro ⟨HO, Hat, -, Hpay⟩
  ihave Hp := (Entails.of_eq (rest_send x W c p hp)) $$ Hpay
  imod (Rounds.cell_close ER (Sch x W) (Set.mem_univ (K (c, .inr (.inl p)))) (fun h => h) (R := 0 + 1) (duties_later x W (sCell c p))) $$ [Hat] with Hz
  · isplitr; · iapply (Rec_inv x W K (c, .inr (.inl p))); iexact HR
    iexact Hat
  iapply Hk
  isplitl [Hp Hz]
  · isplitl [Hz] <;> iassumption
  iexists _; iexact HO

/-! ## The remote copy of a tile -/

/-- What the copy of tile `p` needs beside the tile itself: the peer's tile, and the two duties' tokens. -/
def sendRes (c : Dev nD) (p : P) : sProp 𝕄 :=
  iprop(rFree (F := F) (peer c p.1) p ∗ dutyTok ER (sCell c p) 0 0 ∗ dutyTok ER (rCell (peer c p.1) p) 0 0)

theorem wp_send {α : Type} (c n : Dev nD) (p : P) (hp : p.1 ≠ 0) (l : List P) (hn : n = peer c p.1) {Q : α → sProp 𝕄}
    (k : PUnit → Prog (TpuEff nD τ sig (Elt F) Λ₀ .tc) α)
    {hsc : (tile rM p : Memref sig (Dev.tc n : Thread nD τ).2.kind .vmem S512x256 .bf16).view.ref.isScScratch = false}
    {hsrc : (tile sM p).view.WordExact} {hdst : (tile rM p).view.WordExact}
    {hsem : DmaTarget.Typed .vmem (.dma (rS p)) (.remote (Dev.tc n : Thread nD τ) (tile rM p) (.dma (sS p)) hsc)} :
    iprop(Rec x W K ∗ sFull x W c p ∗ sendRes c p ∗ Ow c (owedSend c (p :: l)))
      ⊢ iprop(((cred (tallyAt (sCell c p) () N) ∗ Ow c (owedSend c l)) -∗ WP c (k ⟨⟩) Q)
          -∗ WP c (.op (.enqueueDma (tile sM p) (.remote (Dev.tc n : Thread nD τ) (tile rM p) (.dma (sS p)) hsc) (.dma (rS p)) hsrc hdst hsem) k) Q) := by
  subst hn
  unfold sFull sendRes rFree Ow owns
  iintro ⟨#HR, ⟨%fs, %hfs, Hsrc⟩, ⟨⟨%fd, Hdst⟩, Hts, Htr⟩, ⟨%V, HO⟩⟩ Hk
  iapply (Rounds.wp_send_pointsTo 𝒱₀ ER (Sch x W) (c : Thread nD τ) none (κ₁ := K (c, .inr (.inl p))) (κ₂ := K (peer c p.1, .inr (.inr p)))
    (r₁ := 0) (r₂ := 0) (d₁ := (0 : Fin 8)) (d₂ := (0 : Fin 8)) (fd := fd)
    (by rw [duties_send x W c p hp]; exact Finset.mem_singleton_self _) (by rw [duties_recv x W (peer c p.1) p hp]; exact Finset.mem_singleton_self _)
    () () N rfl (amount_send x W c p 0) (amount_recv x W (peer c p.1) p 0) (owedSend c l) rfl (W := V)
    (by
      rw [payload_send]; unfold sFull owns
      iintro H; iexists fs; isplitr; · ipureintro; exact hfs
      iexact H)
    (by
      rw [payload_recv]; unfold rFull owns
      iintro H; iexists ((tile rM p).view.write (Elt F) fd ((tile sM p).view.read (Elt F) fs) Finset.univ); isplitr
      · ipureintro
        refine (View.read_write_univ _ _).trans ?_
        rw [hfs, back_peer]
      iexact H)) $$ [Hsrc Hdst HO Hts Htr]
  · isplitr; · iapply (Rec_inv x W K (c, .inr (.inl p))); iexact HR
    isplitr; · iapply (Rec_inv x W K (peer c p.1, .inr (.inr p))); iexact HR
    isplitl [Hsrc]; · iexact Hsrc
    isplitl [Hdst]; · iexact Hdst
    isplitl [HO]; · iexact HO
    isplitl [Hts]; · iexact Hts
    isplitr; · iapply (Rec_reached x W K (c, .inr (.inl p))); iexact HR
    isplitl [Htr]; · iexact Htr
    iapply (Rec_reached x W K (peer c p.1, .inr (.inr p))); iexact HR
  iintro ⟨Hc, HO⟩
  iapply Hk
  isplitl [Hc]; · iexact Hc
  iexists V; iexact HO

end Rec

end Cert.KernelIdeal.A2A

end
-- ==== Proof.Compute.lean ====
/-
One rule for each step a device does alone: narrowing the activations, starting and awaiting a load
of the weights, and the three kinds of tiles, those sent, those kept and those received.
-/
module

public import proofs.«01_k».proof.Proof.Steps

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (x : Dev nD → Vec F S512x4096 .f32) (W : Dev nD → (main_arg1 : Ref sig .tc).ty.Contents (Elt F)) (K : Dev nD × Ck → ℕ)

/-! ## Narrowing the activations -/

abbrev xPts (c : Dev nD) (v : Vec F S512x4096 .f32) : sProp 𝕄 := ((c : Thread nD τ).loc cc0_stg0_0) ↦{fullShare} v
abbrev bPts (c : Dev nD) (v : Vec F S512x4096 .bf16) : sProp 𝕄 := ((c : Thread nD τ).loc cc0_scratch0) ↦{fullShare} v

omit [FloatOps F] in
theorem zeros2 : (![0, 0] : Fin 2 → Nat) = fun _ => 0 := funext fun a => by fin_cases a <;> rfl

theorem wp_castX {α : Type} (c : Dev nD) {Q : α → sProp 𝕄} (k : PUnit → Prog (TpuEff nD τ sig (Elt F) Λ₀ .tc) α)
    (h3 : (bM : Memref sig .tc .vmem S512x4096 .bf16).IsWhole) :
    iprop(xPts c (x c) ∗ ∃ f, bPts c f)
      ⊢ iprop(((xPts c (x c) ∗ bPts c (xb x c)) -∗ WP c (k ⟨⟩) Q) -∗ WP c (castX xM bM h3 >>= k) Q) := by
  unfold castX
  simp only [Prog.lift, Prog.bind_op, Prog.bind_ret]
  iintro ⟨Hx, ⟨%f, Hb⟩⟩ Hk
  iapply (wp_load 𝒱₀ (c : Thread nD τ) none Set.univ (m := xM) (Finset.subset_univ _)) $$ Hx; iintro Hx
  rw [show xM.view.readAt (Elt F) (Rect.unit (s := S512x4096) ![0, 0] S512x4096.size inb_S512x4096_S512x4096_0_0).toLoadRect (x c) = x c from
    Memref.readAt_unit_zero (Elt F) cc0_stg0_0 zeros2 _ _]
  iapply (wp_load 𝒱₀ (c : Thread nD τ) none Set.univ (m := bM) (Finset.subset_univ _)) $$ Hb; iintro Hb
  iapply (wp_store 𝒱₀ (c : Thread nD τ) none Set.univ (m := bM) (r := Rect.unit (s := S512x4096) ![0, 0] S512x4096.size inb_S512x4096_S512x4096_0_0) (Mk := Finset.univ) (S := Finset.univ) (Finset.subset_univ _)) $$ Hb; iintro Hb
  rw [cast_eq, show (bM.access (Rect.unit (s := S512x4096) ![0, 0] S512x4096.size inb_S512x4096_S512x4096_0_0)).write (Elt F) f
      (truncf .bf16 (x c) bitsLt_bf16_f32 : FVec F S512x4096 .bf16) Finset.univ = xb x c from
    Memref.write_access_unit_zero_univ (Elt F) cc0_scratch0 zeros2 _ _ _]
  iapply Hk
  isplitl [Hx]; · iexact Hx
  iexact Hb

/-! ## The loads of the weights -/

/-- The half of the weights' share that a slot's loads read with. -/
def wq (j : Fin 2) : PosShare TreeShare := if j = 0 then fullShare.left else fullShare.right

abbrev wLoc (c : Dev nD) : Loc nD τ sig := (c : Thread nD τ).loc main_arg1

/-- A slot at rest; a load into it on the way; a load that has arrived. -/
def Idle (c : Dev nD) (j : Fin 2) : sProp 𝕄 :=
  iprop((∃ f : Buf (Elt F) ((wSlot lM j).view.loc (c : Thread nD τ)), (wSlot lM j).view.loc (c : Thread nD τ) ↦[(wSlot lM j).view.set]{fullShare} f)
    ∗ semVal ((c : Thread nD τ), .dma (wS j)) 0 ∗ (wLoc c ↦{wq j} W c))
def Loading (c : Dev nD) (p : P) : sProp 𝕄 :=
  iprop(Transfers.Flight countersEmb (c : Thread nD τ) (.dma (wS (slot p.2))) () (wSlot lM (slot p.2)).view.dmaCredit
      iprop(owns (c : Thread nD τ) (wSlot lM (slot p.2)) fullShare (wt W c p) ∗ (wLoc c ↦[(wTile wM c p).view.set]{wq (slot p.2)} W c))
    ∗ (wLoc c ↦[Finset.univ \ (wTile wM c p).view.set]{wq (slot p.2)} W c))
def Loaded (c : Dev nD) (p : P) : sProp 𝕄 :=
  iprop(owns (c : Thread nD τ) (wSlot lM (slot p.2)) fullShare (wt W c p)
    ∗ semVal ((c : Thread nD τ), .dma (wS (slot p.2))) 0 ∗ (wLoc c ↦{wq (slot p.2)} W c))

theorem wp_startW {α : Type} (c : Dev nD) (p : P) {Q : α → sProp 𝕄} (k : PUnit → Prog (TpuEff nD τ sig (Elt F) Λ₀ .tc) α) :
    Idle W c (slot p.2) ⊢ iprop((Loading W c p -∗ WP c (k ⟨⟩) Q) -∗ WP c (startW wM lM cc0_scratch4 c p >>= k) Q) := by
  unfold startW Idle
  simp only [Prog.lift, Prog.bind_op, Prog.bind_ret]
  iintro ⟨⟨%f, Hl⟩, Hv, Hw⟩ Hk
  ihave Hw' := (pointsTo_split_subset (Finset.subset_univ ((wTile wM c p).view.set))).1 $$ Hw
  icases Hw' with ⟨Hw, Hrest⟩
  iapply (Transfers.wp_dmaLocal countersEmb 𝒱₀ (c : Thread nD τ) none () (wSlot lM (slot p.2)).view.dmaCredit rfl
    (View.dmaCredit_pos _ (by decide)) (subset_refl _) (src := wTile wM c p) (dst := wSlot lM (slot p.2)) (fs := W c) (fd := f)) $$ [Hl Hv Hw]
  · isplitl [Hw]; · iexact Hw
    isplitl [Hl] <;> iassumption
  iintro Hf
  iapply Hk
  unfold Loading
  isplitl [Hf]
  · iapply (Transfers.Flight_mono countersEmb (c : Thread nD τ) (by
      iintro ⟨H, Hw⟩
      isplitl [H]
      · unfold owns
        iexists ((wSlot lM (slot p.2)).view.write (Elt F) f ((wTile wM c p).view.read (Elt F) (W c)) Finset.univ); isplitr
        · ipureintro; exact View.read_write_univ _ _
        iexact H
      iexact Hw)) $$ Hf
  iexact Hrest

theorem wp_waitW {α : Type} (c : Dev nD) (p : P) (l : List P) {Q : α → sProp 𝕄} (k : PUnit → Prog (TpuEff nD τ sig (Elt F) Λ₀ .tc) α) :
    iprop(Rec x W K ∗ Loading W c p ∗ Ow c (owedSend c l))
      ⊢ iprop(((Loaded W c p ∗ Ow c (owedSend c l)) -∗ WP c (k ⟨⟩) Q) -∗ WP c (waitW wM lM cc0_scratch4 c p >>= k) Q) := by
  unfold waitW Loading Ow
  simp only [Prog.lift, Prog.bind_op, Prog.bind_ret]
  iintro ⟨#HR, ⟨Hf, Hrest⟩, ⟨%V, HO⟩⟩ Hk
  iapply (Transfers.wp_waitLocalO countersEmb 𝒱₀ (c : Thread nD τ) none () (rfl : (wSlot lM (slot p.2)).view.dmaCredit = _)) $$ [Hf HO]
  · isplitl [Hf]; · iexact Hf
    isplitl [HO]; · iexact HO
    iapply (mayWait_low (F := F) c (wS (slot p.2)) (by rw [wS_val]; omega) l); iapply (Rec_lev x W K); iexact HR
  iintro ⟨⟨Ho, Hw⟩, Hv, HO⟩
  iapply Hk
  unfold Loaded
  isplitl [Ho Hw Hv Hrest]
  · isplitl [Ho]; · iexact Ho
    isplitl [Hv]; · iexact Hv
    iapply (pointsTo_split_subset (Finset.subset_univ ((wTile wM c p).view.set))).2
    isplitl [Hw] <;> iassumption
  iexists _; iexact HO

/-! ## The products -/

theorem wp_product {α : Type} (c : Dev nD) (p : P) {Q : α → sProp 𝕄} (k : FVec F S512x256 .f32 → Prog (TpuEff nD τ sig (Elt F) Λ₀ .tc) α) :
    iprop(bPts c (xb x c) ∗ Loaded W c p)
      ⊢ iprop(((bPts c (xb x c) ∗ Idle W c (slot p.2)) -∗ WP c (k (tv x W c p)) Q)
        -∗ WP c (loadX bM >>= fun v => loadW lM (slot p.2) >>= fun w => k (prod v w)) Q) := by
  unfold loadX loadW Loaded owns
  simp only [Prog.lift, Prog.bind_op, Prog.bind_ret]
  iintro ⟨Hb, ⟨%f, %hf, Hl⟩, Hv, Hw⟩ Hk
  iapply (wp_load 𝒱₀ (c : Thread nD τ) none Set.univ (m := bM) (Finset.subset_univ _)) $$ Hb; iintro Hb
  rw [show bM.view.readAt (Elt F) (Rect.unit (s := S512x4096) ![0, 0] S512x4096.size inb_S512x4096_S512x4096_0_0).toLoadRect (xb x c) = xb x c from
    Memref.readAt_unit_zero (Elt F) cc0_scratch0 zeros2 _ _]
  iapply (wp_load_rect 𝒱₀ (c : Thread nD τ) none Set.univ (m := lM) (r := lRect (slot p.2)) (S := (wSlot lM (slot p.2)).view.set) (by rw [access_set_l])) $$ Hl; iintro Hl
  rw [prod_slot, hf]
  iapply Hk
  isplitl [Hb]; · iexact Hb
  unfold Idle
  isplitl [Hl]; · iexists f; iexact Hl
  isplitl [Hv] <;> iassumption

/-! ## A tile that is sent -/

/-- What the sends go on with: the load for the next tile on the way, the other slot at rest, the
    narrowed activations, and the copies still owed. -/
def sendInv (c : Dev nD) (l : List P) : sProp 𝕄 :=
  iprop(Loading W c (l.headD (0, 0)) ∗ Idle W c (slot (l.headD (0, 0)).2 + 1) ∗ bPts c (xb x c) ∗ Ow c (owedSend c l))

theorem slot_next (p : P) : slot (next p).2 = slot p.2 + 1 := by revert p; decide
theorem slot_next_next (p : P) : slot (next p).2 + 1 = slot p.2 := by revert p; decide

theorem wp_tile {α : Type} (c : Dev nD) (p : P) (hp : p.1 ≠ 0) (l : List P) (hl : l.headD (0, 0) = next p) {Q : α → sProp 𝕄}
    (k : PUnit → Prog (TpuEff nD τ sig (Elt F) Λ₀ .tc) α)
    (h3 : (bM : Memref sig .tc .vmem S512x4096 .bf16).IsWhole) (h5 : (sM : Memref sig .tc .vmem S8x512x1024 .bf16).IsWhole) (h6 : (rM : Memref sig .tc .vmem S8x512x1024 .bf16).IsWhole) :
    iprop(Rec x W K ∗ (sFree (F := F) c p ∗ sendRes (F := F) c p) ∗ sendInv x W c (p :: l))
      ⊢ iprop(((cred (tallyAt (sCell c p) () N) ∗ sendInv x W c l) -∗ WP c (k ⟨⟩) Q)
        -∗ WP c (tileStep wM bM lM sM h5 rM h6 cc0_scratch4 cc0_scratch5 cc0_scratch6 c p >>= k) Q) := by
  unfold sendInv tileStep sFree
  rw [hl, List.headD_cons, slot_next_next]
  simp only [bind_assoc]
  iintro ⟨#HR, ⟨⟨%fs, Hs⟩, Hres⟩, Hld, Hidle, Hb, HO⟩ Hk
  rw [← slot_next p]
  iapply (wp_startW W c (next p)) $$ Hidle; iintro Hnext
  iapply (wp_waitW x W K c p (p :: l)) $$ [Hld HO]
  · isplitr; · iexact HR
    isplitl [Hld] <;> iassumption
  iintro ⟨Hld, HO⟩
  iapply (wp_product x W c p (fun y => storeTile sM h5 p y >>= fun _ => sendTile sM h5 rM h6 cc0_scratch5 cc0_scratch6 c p >>= k)) $$ [Hb Hld]
  · isplitl [Hb] <;> iassumption
  iintro ⟨Hb, Hidle⟩
  unfold storeTile sendTile
  simp only [Prog.lift, Prog.bind_op, Prog.bind_ret]
  iapply (wp_load_rect 𝒱₀ (c : Thread nD τ) none Set.univ (m := sM) (r := tRect p) (S := (tile sM p).view.set) (by rw [access_set_s])) $$ Hs; iintro Hs
  iapply (wp_store 𝒱₀ (c : Thread nD τ) none Set.univ (m := sM) (r := tRect p) (Mk := Finset.univ) (S := (tile sM p).view.set)
    (by rw [View.setOn_univ, access_set_s])) $$ Hs; iintro Hs
  iapply (wp_send x W K c _ p hp l (peer_mk c p.1)) $$ [Hs Hres HO]
  · isplitr; · iexact HR
    isplitl [Hs]
    · unfold sFull owns; iexists _; isplitr
      · ipureintro; exact read_stored p fs (tv x W c p)
      iexact Hs
    isplitl [Hres] <;> iassumption
  iintro ⟨Hc, HO⟩
  iapply Hk
  isplitl [Hc]; · iexact Hc
  isplitl [Hnext]; · iexact Hnext
  isplitl [Hidle]; · iexact Hidle
  isplitl [Hb] <;> iassumption

/-! ## A tile that stays -/

abbrev oLoc (c : Dev nD) : Loc nD τ sig := (c : Thread nD τ).loc cc0_stg1_0

def ownFree (c : Dev nD) (t : Fin 4) : sProp 𝕄 := iprop(∃ f : Buf (Elt F) (oLoc c), oLoc c ↦[(ownRect c t).set]{fullShare} f)
def ownFull (c : Dev nD) (t : Fin 4) : sProp 𝕄 := oLoc c ↦[(ownRect c t).set]{fullShare} outv x W c

theorem own_landed (c : Dev nD) (t : Fin 4) (f : Buf (Elt F) (oLoc c)) :
    (oLoc c ↦[(ownRect c t).set]{fullShare} ((oM.access (ownRect c t)).write (Elt F) f (tv x W c (0, t)) Finset.univ) : sProp 𝕄) ⊢ ownFull x W c t :=
  Entails.of_eq (pointsTo_congr (fun i hi => own_stored x W c t f i hi))

theorem wp_own {α : Type} (c : Dev nD) (t : Fin 4) {Q : α → sProp 𝕄} (k : PUnit → Prog (TpuEff nD τ sig (Elt F) Λ₀ .tc) α) :
    iprop(Rec x W K ∗ ownFree (F := F) c t ∗ Loading W c (0, t) ∗ bPts c (xb x c) ∗ Ow c 0)
      ⊢ iprop(((ownFull x W c t ∗ Idle W c (slot t) ∗ bPts c (xb x c) ∗ Ow c 0) -∗ WP c (k ⟨⟩) Q)
        -∗ WP c (ownStep wM oM bM lM cc0_scratch4 c t >>= k) Q) := by
  unfold ownStep ownFree
  simp only [bind_assoc]
  iintro ⟨#HR, ⟨%f, Ho⟩, Hld, Hb, HO⟩ Hk
  iapply (wp_waitW x W K c (0, t) []) $$ [Hld HO]
  · isplitr; · iexact HR
    isplitl [Hld]; · iexact Hld
    iexact HO
  iintro ⟨Hld, HO⟩
  iapply (wp_product x W c (0, t) (fun y => (Prog.lift (.load oM (ownRect c t).toLoadRect (View.loadsAt_vmem h_S512x256)) : Prog (TpuEff nD τ sig (Elt F) Λ₀ .tc) (Vec F S512x256 .f32)) >>= fun _ =>
    Prog.lift (.store oM (ownRect c t) y Finset.univ (View.stores_vmem_bits_univ h_S512x256 rfl) (.inl rfl)) >>= k)) $$ [Hb Hld]
  · isplitl [Hb] <;> iassumption
  iintro ⟨Hb, Hidle⟩
  simp only [Prog.lift, Prog.bind_op, Prog.bind_ret]
  iapply (wp_load_rect 𝒱₀ (c : Thread nD τ) none Set.univ (m := oM) (r := ownRect c t) (S := (ownRect c t).set) (View.set_slice_whole _ _).subset) $$ Ho; iintro Ho
  iapply (wp_store 𝒱₀ (c : Thread nD τ) none Set.univ (m := oM) (r := ownRect c t) (Mk := Finset.univ) (S := (ownRect c t).set)
    (View.set_slice_whole _ _).subset) $$ Ho; iintro Ho
  iapply Hk
  isplitl [Ho]
  · iapply (own_landed x W c t f); iexact Ho
  isplitl [Hidle]; · iexact Hidle
  isplitl [Hb]; · iexact Hb
  iexact HO

/-! ## A slab that is received -/

def rowFree (c : Dev nD) (s : Fin 8) : sProp 𝕄 := iprop(∃ f : Buf (Elt F) (oLoc c), oLoc c ↦[(rowRect c s).set]{fullShare} f)
def rowFull (c : Dev nD) (s : Fin 8) : sProp 𝕄 := oLoc c ↦[(rowRect c s).set]{fullShare} outv x W c

abbrev rLoc (c : Dev nD) : Loc nD τ sig := (c : Thread nD τ).loc cc0_scratch3

omit [FloatOps F] in
theorem sRect_eq (s : Fin 8) : (Finset.univ : Finset (Fin 4)).biUnion (fun t => (tile rM (s, t)).view.set) = (sRect s).set := by
  ext i
  rw [Finset.mem_biUnion, mem_sRect]
  constructor
  · rintro ⟨t, -, h⟩
    rw [tile_set_r] at h
    rw [(mem_tRect i (s, t)).mp h]
  · intro h
    refine ⟨(tKey i).2, Finset.mem_univ _, ?_⟩
    rw [tile_set_r]
    exact (mem_tRect i _).mpr (Prod.ext h rfl)

omit [FloatOps F] in
theorem tile_disjoint (p p' : P) (h : p ≠ p') : Disjoint (tRect p).set (tRect p').set :=
  Finset.disjoint_left.mpr fun i hi hi' => h (((mem_tRect i p).mp hi).symm.trans ((mem_tRect i p').mp hi'))

/-- The four tiles of a slab together. -/
theorem slab_join (c : Dev nD) (s : Fin 8) :
    bigSep Finset.univ (fun t : Fin 4 => rFull x W c (s, t))
      ⊢ (iprop(∃ g : Buf (Elt F) (rLoc c), ⌜∀ t, (tile rM (s, t)).view.read (Elt F) g = sv x W (back c s) (s, t)⌝ ∗ rLoc c ↦[(sRect s).set]{fullShare} g) : sProp 𝕄) := by
  unfold rFull owns
  iintro H
  ihave H' := (BI.bigSep_exists_pi Finset.univ (fun (t : Fin 4) (f : Buf (Elt F) ((tile rM (s, t)).view.loc (c : Thread nD τ))) =>
    (iprop(⌜(tile rM (s, t)).view.read (Elt F) f = sv x W (back c s) (s, t)⌝ ∗ ((tile rM (s, t)).view.loc (c : Thread nD τ) ↦[(tile rM (s, t)).view.set]{fullShare} f)) : sProp 𝕄))) $$ H
  icases H' with ⟨%fs, H⟩
  ihave H2 := (bigSep_pure_sep Finset.univ _ _) $$ H
  icases H2 with ⟨%hp, H⟩
  ihave Hj := (pointsTo_biUnion_join (ℓ := rLoc c) Finset.univ (fun t : Fin 4 => (tile rM (s, t)).view.set) fs (fs 0) (fun t _ t' _ h => by
    rw [tile_set_r, tile_set_r]; exact tile_disjoint _ _ fun e => h (congrArg Prod.snd e))) $$ H
  icases Hj with ⟨%g, %hg, H⟩
  iexists g
  isplitr
  · ipureintro
    intro t
    rw [← hp t (Finset.mem_univ t)]
    exact View.read_congr (fun i hi => hg t (Finset.mem_univ t) i hi)
  rw [← sRect_eq]; iexact H

theorem row_landed (c : Dev nD) (s : Fin 8) (hs : s ≠ 0) (f : Buf (Elt F) (oLoc c)) (g : Buf (Elt F) (rLoc c))
    (h : ∀ t, (tile rM (s, t)).view.read (Elt F) g = sv x W (back c s) (s, t)) :
    (oLoc c ↦[(rowRect c s).set]{fullShare} ((oM.access (rowRect c s)).write (Elt F) f (widen ((rM.access (sRect s)).read (Elt F) g)) Finset.univ) : sProp 𝕄)
      ⊢ rowFull x W c s :=
  Entails.of_eq (pointsTo_congr (fun i hi => row_stored x W c s hs f g h i hi))

theorem wp_recv {α : Type} (c : Dev nD) (s : Fin 8) (hs : s ≠ 0) {Q : α → sProp 𝕄} (k : PUnit → Prog (TpuEff nD τ sig (Elt F) Λ₀ .tc) α)
    (h5 : (sM : Memref sig .tc .vmem S8x512x1024 .bf16).IsWhole) (h6 : (rM : Memref sig .tc .vmem S8x512x1024 .bf16).IsWhole) :
    iprop(Rec x W K ∗ (bigSep Finset.univ (fun t : Fin 4 => waitRes (F := F) (rCell c (s, t))) ∗ rowFree (F := F) c s) ∗ Ow c 0)
      ⊢ iprop(((((bigSep Finset.univ fun t : Fin 4 => semVal (rCell c (s, t)) 0) ∗ (∃ g : Buf (Elt F) (rLoc c), rLoc c ↦[(sRect s).set]{fullShare} g) ∗ rowFull x W c s) ∗ Ow c 0) -∗ WP c (k ⟨⟩) Q)
        -∗ WP c (recvStep oM sM h5 rM h6 cc0_scratch6 c s >>= k) Q) := by
  unfold recvStep rowFree
  simp only [bind_assoc]
  iintro ⟨#HR, ⟨Hw, ⟨%f, Ho⟩⟩, HO⟩ Hk
  iapply (wp_each c (Rec x W K) (fun t => waitRecv sM h5 rM h6 cc0_scratch6 (s, t)) (fun t => waitRes (F := F) (rCell c (s, t)))
    (fun t => iprop(semVal (rCell c (s, t)) 0 ∗ rFull x W c (s, t))) (fun _ => Ow c 0) tiles
    (fun t l _ k => wp_waitRecv x W K c (s, t) hs k h5 h6) tiles (List.suffix_refl _) (by decide)) $$ [Hw HO]
  · isplitr; · iexact HR
    isplitl [Hw]
    · rw [show tiles.toFinset = Finset.univ from by decide]; iexact Hw
    iexact HO
  rw [show tiles.toFinset = Finset.univ from by decide, bigSep_sep']
  iintro ⟨⟨Hz, Hr⟩, HO⟩
  ihave Hj := (slab_join x W c s) $$ Hr
  icases Hj with ⟨%g, %hg, Hr⟩
  simp only [Prog.lift, Prog.bind_op, Prog.bind_ret]
  iapply (wp_load_rect 𝒱₀ (c : Thread nD τ) none Set.univ (m := rM) (r := sRect s) (S := (sRect s).set) (View.set_slice_whole _ _).subset) $$ Hr; iintro Hr
  iapply (wp_load_rect 𝒱₀ (c : Thread nD τ) none Set.univ (m := oM) (r := rowRect c s) (S := (rowRect c s).set) (View.set_slice_whole _ _).subset) $$ Ho; iintro Ho
  iapply (wp_store 𝒱₀ (c : Thread nD τ) none Set.univ (m := oM) (r := rowRect c s) (Mk := Finset.univ) (S := (rowRect c s).set)
    (View.set_slice_whole _ _).subset) $$ Ho; iintro Ho
  iapply Hk
  isplitr [HO]
  · isplitl [Hz]; · iexact Hz
    isplitl [Hr]; · iexists g; iexact Hr
    iapply (row_landed x W c s hs f g hg); iexact Ho
  iexact HO

end Cert.KernelIdeal.A2A

end
-- ==== Proof.Split.lean ====
/-
The buffers cut into their pieces and put together again.
-/
module

public import proofs.«01_k».proof.Proof.Compute

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting along a key -/

section Blocks

variable {ℓ : Loc nD τ sig} {B : Type} [Fintype B] [DecidableEq B] (I : B → Finset (Idx ℓ)) (S : Finset (Idx ℓ)) (key : Idx ℓ → B)
  (h : ∀ i b, i ∈ I b ↔ i ∈ S ∧ key i = b)

include h in
theorem blocks_union : (Finset.univ : Finset B).biUnion I = S := by
  ext i
  rw [Finset.mem_biUnion]
  constructor
  · rintro ⟨b, -, hb⟩; exact ((h i b).mp hb).1
  · intro hi; exact ⟨key i, Finset.mem_univ _, (h i _).mpr ⟨hi, rfl⟩⟩

include h in
theorem blocks_disjoint (b b' : B) (hb : b ≠ b') : Disjoint (I b) (I b') :=
  Finset.disjoint_left.mpr fun i hi hi' => hb ((((h i b).mp hi).2.symm).trans ((h i b').mp hi').2)

omit [FloatOps F] in
include h in
theorem blocks_split (f : Buf (Elt F) ℓ) : (ℓ ↦[S]{fullShare} f : sProp 𝕄) = bigSep Finset.univ fun b => ℓ ↦[I b]{fullShare} f := by
  rw [← blocks_union I S key h]
  exact pointsTo_biUnion Finset.univ I fun b _ b' _ => blocks_disjoint I S key h b b'

omit [FloatOps F] in
include h in
theorem blocks_join [Nonempty B] [Nonempty (Buf (Elt F) ℓ)] : (bigSep Finset.univ fun b => iprop(∃ f : Buf (Elt F) ℓ, ℓ ↦[I b]{fullShare} f) : sProp 𝕄)
    ⊢ iprop(∃ g : Buf (Elt F) ℓ, ℓ ↦[S]{fullShare} g) := by
  iintro H
  ihave H' := (BI.bigSep_exists_pi Finset.univ (fun (b : B) (f : Buf (Elt F) ℓ) => (ℓ ↦[I b]{fullShare} f : sProp 𝕄))) $$ H
  icases H' with ⟨%fs, H⟩
  ihave Hj := (pointsTo_biUnion_join (ℓ := ℓ) Finset.univ I fs (fs (Classical.arbitrary B)) fun b _ b' _ => blocks_disjoint I S key h b b') $$ H
  icases Hj with ⟨%g, -, H⟩
  iexists g
  rw [← blocks_union I S key h]; iexact H

end Blocks

omit [FloatOps F] in
theorem some_contents (ℓ : Loc nD τ sig) (I : Finset (Idx ℓ)) (f : Buf (Elt F) ℓ) :
    (ℓ ↦[I]{fullShare} f : sProp 𝕄) ⊢ iprop(∃ f : Buf (Elt F) ℓ, ℓ ↦[I]{fullShare} f) := by
  iintro H; iexists f; iexact H

/-- Sums over pairs. -/
theorem pairs_split (Φ : P → sProp 𝕄) :
    bigSep Finset.univ Φ = iprop((bigSep Finset.univ fun t : Fin 4 => Φ (0, t)) ∗ bigSep S7 fun s => bigSep Finset.univ fun t : Fin 4 => Φ (s, t)) := by
  rw [bigSep_univ_prod, bigSep_univ_at _ (0 : Fin 8)]

/-- The tiles that are sent. -/
abbrev SN : Finset P := sends.toFinset
theorem steps_set : steps.toFinset = S7 := by decide
theorem SN_eq : SN = Finset.univ \ ((Finset.univ : Finset (Fin 4)).map ⟨fun t => ((0 : Fin 8), t), fun _ _ e => congrArg Prod.snd e⟩) := by decide
theorem mem_SN (p : P) (h : p ∈ sends) : p.1 ≠ 0 := by revert p; decide

theorem sends_split (Φ : P → sProp 𝕄) : bigSep Finset.univ Φ = iprop((bigSep Finset.univ fun t : Fin 4 => Φ (0, t)) ∗ bigSep SN Φ) := by
  have hu : (Finset.univ : Finset P) = ((Finset.univ : Finset (Fin 4)).map ⟨fun t => ((0 : Fin 8), t), fun _ _ e => congrArg Prod.snd e⟩) ∪ SN := by decide
  rw [hu, bigSep_union (by decide), bigSep_map]
  rfl

/-- Products of sums. -/
theorem sends_eq (Φ : P → sProp 𝕄) : bigSep SN Φ = bigSep S7 fun s => bigSep Finset.univ fun t : Fin 4 => Φ (s, t) := by
  have h7 (Ψ : Fin 8 → sProp 𝕄) : bigSep S7 Ψ = iprop(Ψ 1 ∗ Ψ 2 ∗ Ψ 3 ∗ Ψ 4 ∗ Ψ 5 ∗ Ψ 6 ∗ Ψ 7) :=
    (bigSep_eq_bigSepL_of_eq (S := S7) [1, 2, 3, 4, 5, 6, 7] (by decide) (by decide) Ψ).trans rfl
  have h8 (s : Fin 8) : (bigSep Finset.univ fun t : Fin 4 => Φ (s, t)) = bigSep ((Finset.univ : Finset (Fin 4)).map ⟨fun t => (s, t), fun _ _ e => congrArg Prod.snd e⟩) Φ := by
    rw [bigSep_map]; rfl
  simp only [h8, h7]
  have hu : SN = ((Finset.univ : Finset (Fin 4)).map ⟨fun t => ((1 : Fin 8), t), fun _ _ e => congrArg Prod.snd e⟩)
      ∪ (((Finset.univ : Finset (Fin 4)).map ⟨fun t => ((2 : Fin 8), t), fun _ _ e => congrArg Prod.snd e⟩)
      ∪ (((Finset.univ : Finset (Fin 4)).map ⟨fun t => ((3 : Fin 8), t), fun _ _ e => congrArg Prod.snd e⟩)
      ∪ (((Finset.univ : Finset (Fin 4)).map ⟨fun t => ((4 : Fin 8), t), fun _ _ e => congrArg Prod.snd e⟩)
      ∪ (((Finset.univ : Finset (Fin 4)).map ⟨fun t => ((5 : Fin 8), t), fun _ _ e => congrArg Prod.snd e⟩)
      ∪ (((Finset.univ : Finset (Fin 4)).map ⟨fun t => ((6 : Fin 8), t), fun _ _ e => congrArg Prod.snd e⟩)
      ∪ ((Finset.univ : Finset (Fin 4)).map ⟨fun t => ((7 : Fin 8), t), fun _ _ e => congrArg Prod.snd e⟩)))))) := by decide
  rw [hu, bigSep_union (by decide), bigSep_union (by decide), bigSep_union (by decide), bigSep_union (by decide), bigSep_union (by decide), bigSep_union (by decide)]
  rfl

/-- The steps counted the other way round. -/
theorem steps_neg (Φ : Fin 8 → sProp 𝕄) : bigSep S7 Φ = bigSep S7 fun s => Φ (-s) := by
  have h (Ψ : Fin 8 → sProp 𝕄) : bigSep S7 Ψ = iprop(Ψ 1 ∗ Ψ 2 ∗ Ψ 3 ∗ Ψ 4 ∗ Ψ 5 ∗ Ψ 6 ∗ Ψ 7) :=
    (bigSep_eq_bigSepL_of_eq (S := S7) [1, 2, 3, 4, 5, 6, 7] (by decide) (by decide) Ψ).trans rfl
  have h' (Ψ : Fin 8 → sProp 𝕄) : bigSep S7 Ψ = iprop(Ψ 7 ∗ Ψ 6 ∗ Ψ 5 ∗ Ψ 4 ∗ Ψ 3 ∗ Ψ 2 ∗ Ψ 1) :=
    (bigSep_eq_bigSepL_of_eq (S := S7) [7, 6, 5, 4, 3, 2, 1] (by decide) (by decide) Ψ).trans rfl
  rw [h Φ, h' fun s => Φ (-s)]
  rfl

/-! ## The receive buffer -/

theorem recv_split (c : Dev nD) (f : Buf (Elt F) (rLoc c)) :
    (rLoc c ↦{fullShare} f : sProp 𝕄) = bigSep Finset.univ fun s => rLoc c ↦[(sRect s).set]{fullShare} f :=
  blocks_split (ℓ := rLoc c) (fun s => (sRect s).set) Finset.univ (fun i => (tKey i).1)
    (fun i s => ⟨fun h => ⟨Finset.mem_univ _, (mem_sRect i s).mp h⟩, fun h => (mem_sRect i s).mpr h.2⟩) f
theorem recv_join (c : Dev nD) :
    (bigSep Finset.univ fun s => iprop(∃ g : Buf (Elt F) (rLoc c), rLoc c ↦[(sRect s).set]{fullShare} g) : sProp 𝕄)
      ⊢ iprop(∃ g : Buf (Elt F) (rLoc c), rLoc c ↦{fullShare} g) :=
  blocks_join (ℓ := rLoc c) (fun s => (sRect s).set) Finset.univ (fun i => (tKey i).1)
    (fun i s => ⟨fun h => ⟨Finset.mem_univ _, (mem_sRect i s).mp h⟩, fun h => (mem_sRect i s).mpr h.2⟩)
theorem slab_split (c : Dev nD) (s : Fin 8) (f : Buf (Elt F) (rLoc c)) :
    (rLoc c ↦[(sRect s).set]{fullShare} f : sProp 𝕄) ⊢ bigSep Finset.univ fun t : Fin 4 => rFree (F := F) c (s, t) := by
  rw [blocks_split (ℓ := rLoc c) (fun t : Fin 4 => (tile rM (s, t)).view.set) (sRect s).set (fun i => (tKey i).2)
    (fun i t => by
      show i ∈ (tile rM (s, t)).view.set ↔ _
      rw [tile_set_r]
      exact (mem_tRect i (s, t)).trans ⟨fun h => ⟨(mem_sRect i s).mpr (congrArg Prod.fst h), congrArg Prod.snd h⟩,
        fun h => Prod.ext ((mem_sRect i s).mp h.1) h.2⟩) f]
  exact bigSep_mono fun t _ => some_contents (rLoc c) _ f

/-! ## The send buffer -/

abbrev sLoc (c : Dev nD) : Loc nD τ sig := (c : Thread nD τ).loc cc0_scratch2

theorem tile_key (i : S8x512x1024.Idx) (p : P) : i ∈ (tile sM p).view.set ↔ i ∈ Finset.univ ∧ tKey i = p := by
  rw [tile_set_s]
  exact (mem_tRect i p).trans ⟨fun h => ⟨Finset.mem_univ _, h⟩, fun h => h.2⟩

theorem send_split (c : Dev nD) (f : Buf (Elt F) (sLoc c)) : (sLoc c ↦{fullShare} f : sProp 𝕄) ⊢ bigSep Finset.univ fun p => sFree (F := F) c p := by
  rw [blocks_split (ℓ := sLoc c) (fun p => (tile sM p).view.set) Finset.univ tKey tile_key f]
  exact bigSep_mono fun t _ => some_contents (sLoc c) _ f
theorem send_join (c : Dev nD) : (bigSep Finset.univ fun p => sFree (F := F) c p) ⊢ iprop(∃ g : Buf (Elt F) (sLoc c), sLoc c ↦{fullShare} g) := by
  unfold sFree
  exact blocks_join (ℓ := sLoc c) (fun p => (tile sM p).view.set) Finset.univ tKey tile_key

theorem sFull_free (x : Dev nD → Vec F S512x4096 .f32) (W : Dev nD → (main_arg1 : Ref sig .tc).ty.Contents (Elt F)) (c : Dev nD) (p : P) :
    sFull x W c p ⊢ sFree (F := F) c p := by
  unfold sFull sFree owns; iintro ⟨%f, -, H⟩; iexists f; iexact H

/-! ## The weight buffer -/

abbrev lLoc (c : Dev nD) : Loc nD τ sig := (c : Thread nD τ).loc cc0_scratch1

theorem slot_key (i : S2x4096x256.Idx) (j : Fin 2) : i ∈ (wSlot lM j).view.set ↔ i ∈ Finset.univ ∧ lKey i = j := by
  rw [slot_set]
  exact (mem_lRect i j).trans ⟨fun h => ⟨Finset.mem_univ _, h⟩, fun h => h.2⟩

def lFree (c : Dev nD) (j : Fin 2) : sProp 𝕄 :=
  iprop(∃ f : Buf (Elt F) ((wSlot lM j).view.loc (c : Thread nD τ)), (wSlot lM j).view.loc (c : Thread nD τ) ↦[(wSlot lM j).view.set]{fullShare} f)

theorem load_split (c : Dev nD) (f : Buf (Elt F) (lLoc c)) : (lLoc c ↦{fullShare} f : sProp 𝕄) ⊢ iprop(lFree (F := F) c 0 ∗ lFree (F := F) c 1) := by
  rw [blocks_split (ℓ := lLoc c) (fun j => (wSlot lM j).view.set) Finset.univ lKey slot_key f]
  refine (bigSep_mono (Ψ := fun j => lFree (F := F) c j) fun t _ => some_contents (lLoc c) _ f).trans ?_
  rw [bigSep_univ_two]
  exact BI.Entails.refl _
theorem load_join (c : Dev nD) : iprop(lFree (F := F) c 0 ∗ lFree (F := F) c 1) ⊢ iprop(∃ g : Buf (Elt F) (lLoc c), lLoc c ↦{fullShare} g) := by
  rw [← bigSep_univ_two fun j => lFree (F := F) c j]
  unfold lFree
  exact blocks_join (ℓ := lLoc c) (fun j => (wSlot lM j).view.set) Finset.univ lKey slot_key

/-! ## The result -/

theorem row_key (c : Dev nD) (i : S4096x1024.Idx) (s : Fin 8) : i ∈ (rowRect c s).set ↔ i ∈ Finset.univ ∧ gap c (oRow i) = s :=
  (mem_rowRect c s i).trans ⟨fun h => ⟨Finset.mem_univ _, by rw [h, gap_back]⟩, fun h => by rw [← h.2, back_gap]⟩
theorem back_zero (c : Dev nD) : back c 0 = c := by revert c; decide
theorem own_key (c : Dev nD) (i : S4096x1024.Idx) (t : Fin 4) : i ∈ (ownRect c t).set ↔ i ∈ (rowRect c 0).set ∧ oCol i = t := by
  rw [mem_ownRect, mem_rowRect, back_zero]

theorem out_split (c : Dev nD) (f : Buf (Elt F) (oLoc c)) :
    (oLoc c ↦{fullShare} f : sProp 𝕄)
      = iprop((bigSep Finset.univ fun t : Fin 4 => oLoc c ↦[(ownRect c t).set]{fullShare} f) ∗ bigSep S7 fun s => oLoc c ↦[(rowRect c s).set]{fullShare} f) := by
  rw [blocks_split (ℓ := oLoc c) (fun s => (rowRect c s).set) Finset.univ (fun i => gap c (oRow i)) (row_key c) f, bigSep_univ_at _ (0 : Fin 8),
    blocks_split (ℓ := oLoc c) (fun t => (ownRect c t).set) (rowRect c 0).set oCol (own_key c) f]
theorem out_cut (c : Dev nD) (f : Buf (Elt F) (oLoc c)) :
    (oLoc c ↦{fullShare} f : sProp 𝕄) ⊢ iprop((bigSep Finset.univ fun t : Fin 4 => ownFree (F := F) c t) ∗ bigSep S7 fun s => rowFree (F := F) c s) := by
  rw [out_split]
  exact BI.sep_mono (bigSep_mono fun t _ => some_contents (oLoc c) _ f) (bigSep_mono fun s _ => some_contents (oLoc c) _ f)
theorem out_join (x : Dev nD → Vec F S512x4096 .f32) (W : Dev nD → (main_arg1 : Ref sig .tc).ty.Contents (Elt F)) (c : Dev nD) :
    iprop((bigSep Finset.univ fun t : Fin 4 => ownFull x W c t) ∗ bigSep S7 fun s => rowFull x W c s) ⊢ (oLoc c ↦{fullShare} outv x W c : sProp 𝕄) := by
  rw [out_split]
  exact Entails.of_eq rfl

end Cert.KernelIdeal.A2A

end
-- ==== Proof.Loops.lean ====
/-
The whole body of a device: from what the launch hands it to what it leaves behind.
-/
module

public import proofs.«01_k».proof.Proof.Split

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A persistent record spread over a sum -/

omit [FloatOps F] in
theorem spread {A : Type} [DecidableEq A] (R : sProp 𝕄) [BI.Persistent R] (S : Finset A) (Φ Ψ : A → sProp 𝕄) (h : ∀ a ∈ S, iprop(R ∗ Φ a) ⊢ Ψ a) :
    iprop(R ∗ bigSep S Φ) ⊢ bigSep S Ψ := by
  refine (sep_mono_left (BI.bigSep_of_persistent S R)).trans ?_
  rw [← bigSep_sep']
  exact bigSep_mono h

section Run

variable (x : Dev nD → Vec F S512x4096 .f32) (W : Dev nD → (main_arg1 : Ref sig .tc).ty.Contents (Elt F)) (K : Dev nD × Ck → ℕ)

/-! ## The five loops -/

theorem steps_ne (a : Fin 8) (l : List (Fin 8)) (h : a :: l <:+ steps) : a ≠ 0 := by
  have h1 : ∀ b ∈ steps, b ≠ 0 := by decide
  exact h1 a (h.subset List.mem_cons_self)
theorem sends_tail (a : P) (l : List P) (h : a :: l <:+ sends) : a.1 ≠ 0 ∧ l.headD (0, 0) = next a := by
  have h1 : ∀ m ∈ sends.tails, m ≠ [] → (m.headD (0, 0)).1 ≠ 0 ∧ m.tail.headD (0, 0) = next (m.headD (0, 0)) := by decide
  exact h1 _ ((List.mem_tails _ _).mpr h) (List.cons_ne_nil _ _)

theorem run_signals {α : Type} (c : Dev nD) {Q : α → sProp 𝕄} (k : PUnit → Prog (TpuEff nD τ sig (Elt F) Λ₀ .tc) α) :
    iprop(Rec x W K ∗ (bigSep S7 fun s => sigRes (F := F) c s) ∗ Ow c (O₀ c))
      ⊢ iprop((Ow c (owedSend c sends) -∗ WP c (k ⟨⟩) Q) -∗ WP c (each steps (signal c) >>= k) Q) := by
  rw [← steps_set]
  iintro ⟨#HR, Hs, HO⟩ Hk
  iapply (wp_each c (Rec x W K) (signal c) (fun s => sigRes (F := F) c s) (fun _ => iprop(emp)) (fun l => Ow c (owedSig c l)) steps
    (fun s l h k => wp_sig x W K c s l (steps_ne s l h) k) steps (List.suffix_refl _) (by decide) k) $$ [Hs HO]
  · isplitr; · iexact HR
    isplitl [Hs]; · iexact Hs
    iexact HO
  iintro ⟨-, HO⟩
  iapply Hk
  iexact HO

theorem run_sends {α : Type} (c : Dev nD) {Q : α → sProp 𝕄} (k : PUnit → Prog (TpuEff nD τ sig (Elt F) Λ₀ .tc) α)
    (h3 : (bM : Memref sig .tc .vmem S512x4096 .bf16).IsWhole) (h5 : (sM : Memref sig .tc .vmem S8x512x1024 .bf16).IsWhole) (h6 : (rM : Memref sig .tc .vmem S8x512x1024 .bf16).IsWhole) :
    iprop(Rec x W K ∗ (bigSep SN fun p => iprop(sFree (F := F) c p ∗ sendRes (F := F) c p)) ∗ sendInv x W c sends)
      ⊢ iprop((((bigSep SN fun p => cred (tallyAt (sCell c p) () N)) ∗ sendInv x W c []) -∗ WP c (k ⟨⟩) Q)
        -∗ WP c (each sends (tileStep wM bM lM sM h5 rM h6 cc0_scratch4 cc0_scratch5 cc0_scratch6 c) >>= k) Q) :=
  wp_each c (Rec x W K) _ (fun p => iprop(sFree (F := F) c p ∗ sendRes (F := F) c p)) (fun p => cred (tallyAt (sCell c p) () N)) (sendInv x W c) sends
    (fun p l h k => wp_tile x W K c p (sends_tail p l h).1 l (sends_tail p l h).2 k h3 h5 h6) sends (List.suffix_refl _) (by decide) k

/-- Before own tile `l.headD 3`. -/
def ownInv (c : Dev nD) (l : List (Fin 4)) : sProp 𝕄 :=
  iprop(Loading W c (0, l.headD 3) ∗ Idle W c (slot (l.headD 3) + 1) ∗ bPts c (xb x c) ∗ Ow c 0)

theorem owns_tail (a : Fin 4) (l : List (Fin 4)) (h : a :: l <:+ [0, 1, 2]) : l.headD 3 = a + 1 ∧ slot (a + 1) = slot a + 1 := by
  have h1 : ∀ m ∈ [(0 : Fin 4), 1, 2].tails, m ≠ [] → m.tail.headD 3 = m.headD 3 + 1 ∧ slot (m.headD 3 + 1) = slot (m.headD 3) + 1 := by decide
  exact h1 _ ((List.mem_tails _ _).mpr h) (List.cons_ne_nil _ _)

theorem slot_twice (j : Fin 2) : j + 1 + 1 = j := by revert j; decide

theorem run_owns {α : Type} (c : Dev nD) {Q : α → sProp 𝕄} (k : PUnit → Prog (TpuEff nD τ sig (Elt F) Λ₀ .tc) α) :
    iprop(Rec x W K ∗ (bigSep ([0, 1, 2] : List (Fin 4)).toFinset fun t => ownFree (F := F) c t) ∗ ownInv x W c [0, 1, 2])
      ⊢ iprop((((bigSep ([0, 1, 2] : List (Fin 4)).toFinset fun t => ownFull x W c t) ∗ ownInv x W c []) -∗ WP c (k ⟨⟩) Q)
        -∗ WP c (each [0, 1, 2] (fun t : Fin 4 => (do
            startW wM lM cc0_scratch4 c (0, t + 1)
            ownStep wM oM bM lM cc0_scratch4 c t)) >>= k) Q) :=
  wp_each c (Rec x W K) _ (fun t => ownFree (F := F) c t) (fun t => ownFull x W c t) (ownInv x W c) [0, 1, 2]
    (fun t l h k => by
      unfold ownInv
      rw [(owns_tail t l h).1, (owns_tail t l h).2, slot_twice]
      simp only [bind_assoc]
      iintro ⟨#HR, Ho, Hl, Hi, Hb, HO⟩ Hk
      ihave Hi' := (Entails.of_eq (congrArg (Idle W c) (show slot ((t :: l).headD 3) + 1 = slot (t + 1) from (owns_tail t l h).2.symm))) $$ Hi
      iapply (wp_startW W c (0, t + 1) _) $$ Hi'
      iintro Hl'
      iapply (wp_own x W K c t k) $$ [Ho Hl Hb HO]
      · isplitr; · iexact HR
        isplitl [Ho]; · iexact Ho
        isplitl [Hl]; · iexact Hl
        isplitl [Hb] <;> iassumption
      iintro ⟨Ho, Hi, Hb, HO⟩
      iapply Hk
      isplitl [Ho]; · iexact Ho
      isplitl [Hl']; · iexact Hl'
      isplitl [Hi]; · iexact Hi
      isplitl [Hb] <;> iassumption)
    [0, 1, 2] (List.suffix_refl _) (by decide) k

/-- What step `s` of the last loop but one leaves behind. -/
def recvOut (c : Dev nD) (s : Fin 8) : sProp 𝕄 :=
  iprop((bigSep Finset.univ fun t : Fin 4 => semVal (rCell c (s, t)) 0) ∗ (∃ g : Buf (Elt F) (rLoc c), rLoc c ↦[(sRect s).set]{fullShare} g) ∗ rowFull x W c s)

theorem run_recvs {α : Type} (c : Dev nD) {Q : α → sProp 𝕄} (k : PUnit → Prog (TpuEff nD τ sig (Elt F) Λ₀ .tc) α)
    (h5 : (sM : Memref sig .tc .vmem S8x512x1024 .bf16).IsWhole) (h6 : (rM : Memref sig .tc .vmem S8x512x1024 .bf16).IsWhole) :
    iprop(Rec x W K ∗ (bigSep S7 fun s => iprop((bigSep Finset.univ fun t : Fin 4 => waitRes (F := F) (rCell c (s, t))) ∗ rowFree (F := F) c s)) ∗ Ow c 0)
      ⊢ iprop((((bigSep S7 fun s => recvOut x W c s) ∗ Ow c 0) -∗ WP c (k ⟨⟩) Q)
        -∗ WP c (each steps (recvStep oM sM h5 rM h6 cc0_scratch6 c) >>= k) Q) := by
  rw [← steps_set]
  exact wp_each c (Rec x W K) _ (fun s => iprop((bigSep Finset.univ fun t : Fin 4 => waitRes (F := F) (rCell c (s, t))) ∗ rowFree (F := F) c s))
    (fun s => recvOut x W c s) (fun _ => Ow c 0) steps
    (fun s l h k => wp_recv x W K c s (steps_ne s l h) k h5 h6) steps (List.suffix_refl _) (by decide) k

theorem run_waits {α : Type} (c : Dev nD) {Q : α → sProp 𝕄} (k : PUnit → Prog (TpuEff nD τ sig (Elt F) Λ₀ .tc) α)
    (h5 : (sM : Memref sig .tc .vmem S8x512x1024 .bf16).IsWhole) (h6 : (rM : Memref sig .tc .vmem S8x512x1024 .bf16).IsWhole) :
    iprop(Rec x W K ∗ (bigSep SN fun p => waitRes (F := F) (sCell c p)) ∗ Ow c 0)
      ⊢ iprop((((bigSep SN fun p => iprop(semVal (sCell c p) 0 ∗ sFull x W c p)) ∗ Ow c 0) -∗ WP c (k ⟨⟩) Q)
        -∗ WP c (each sends (waitSend sM h5 rM h6 cc0_scratch5) >>= k) Q) :=
  wp_each c (Rec x W K) _ (fun p => waitRes (F := F) (sCell c p)) (fun p => iprop(semVal (sCell c p) 0 ∗ sFull x W c p)) (fun _ => Ow c 0) sends
    (fun p l h k => wp_waitSend x W K c p (sends_tail p l h).1 k h5 h6) sends (List.suffix_refl _) (by decide) k

/-! ## Closing the cells that no copy uses -/

theorem close_own (c : Dev nD) (t : Fin 4) :
    iprop(Rec x W K ∗ atPos ER (sCell c (0, t)) 0 ∅ 0 ∗ atPos ER (rCell c (0, t)) 0 ∅ 0)
      ⊢ iprop(|={Set.univ}=> (semVal (sCell c (0, t)) 0 ∗ semVal (rCell c (0, t)) 0)) := by
  iintro ⟨#HR, Hs, Hr⟩
  imod (Rounds.cell_close ER (Sch x W) (Set.mem_univ (K (c, .inr (.inl (0, t))))) (fun h => h) (R := 0) (duties_own_send x W c t)) $$ [Hs] with Hs
  · isplitr; · iapply (Rec_inv x W K (c, .inr (.inl (0, t)))); iexact HR
    iexact Hs
  imod (Rounds.cell_close ER (Sch x W) (Set.mem_univ (K (c, .inr (.inr (0, t))))) (fun h => h) (R := 0) (duties_own_recv x W c t)) $$ [Hr] with Hr
  · isplitr; · iapply (Rec_inv x W K (c, .inr (.inr (0, t)))); iexact HR
    iexact Hr
  imodintro
  isplitl [Hs] <;> iassumption

theorem close_owns (c : Dev nD) :
    iprop(Rec x W K ∗ bigSep Finset.univ fun t : Fin 4 => iprop(atPos ER (sCell c (0, t)) 0 ∅ 0 ∗ atPos ER (rCell c (0, t)) 0 ∅ 0))
      ⊢ iprop(|={Set.univ}=> bigSep Finset.univ fun t : Fin 4 => iprop(semVal (sCell c (0, t)) 0 ∗ semVal (rCell c (0, t)) 0)) :=
  (spread (Rec x W K) Finset.univ _ _ fun t _ => close_own x W K c t).trans (bigSep_fupd _ _)

end Run

end Cert.KernelIdeal.A2A

end
-- ==== Proof.Body.lean ====
/-
The whole body of a device: from what the launch hands it to what it leaves behind.
-/
module

public import proofs.«01_k».proof.Proof.Loops

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body

variable (x : Dev nD → Vec F S512x4096 .f32) (W : Dev nD → (main_arg1 : Ref sig .tc).ty.Contents (Elt F)) (K : Dev nD × Ck → ℕ)

/-- What the launch hands device `c` of the protocol: the records, the tokens of its duties, its places and its credits. -/
def Held (c : Dev nD) : sProp 𝕄 :=
  iprop(Rec x W K
    ∗ (bigSep S7 fun s => dutyTok ER (barCell (peer c s)) 0 (-s))
    ∗ cred (tallyAt (barCell c) () 7) ∗ atPos ER (barCell c) 0 ∅ 0
    ∗ (bigSep SN fun p => iprop(dutyTok ER (sCell c p) 0 0 ∗ dutyTok ER (rCell (peer c p.1) p) 0 0))
    ∗ (bigSep Finset.univ fun p : P => iprop(atPos ER (sCell c p) 0 ∅ 0 ∗ atPos ER (rCell c p) 0 ∅ 0))
    ∗ (bigSep SN fun p => cred (tallyAt (rCell c p) () N)))

/-- The two semaphores of the weight buffer at rest, and the weights. -/
def Weights (c : Dev nD) : sProp 𝕄 :=
  iprop(semVal ((c : Thread nD τ), .dma (wS 0)) 0 ∗ semVal ((c : Thread nD τ), .dma (wS 1)) 0 ∗ (wLoc c ↦{fullShare} W c))

/-- The scratch buffers, whatever they hold. -/
def Scratch (c : Dev nD) : sProp 𝕄 :=
  iprop((∃ f, bPts (F := F) c f) ∗ (∃ f : Buf (Elt F) (lLoc c), lLoc c ↦{fullShare} f) ∗ (∃ f : Buf (Elt F) (sLoc c), sLoc c ↦{fullShare} f)
    ∗ (∃ f : Buf (Elt F) (rLoc c), rLoc c ↦{fullShare} f))

/-- The cells at rest, after the body. -/
def Rest (c : Dev nD) : sProp 𝕄 :=
  iprop(semVal (barCell c) 0 ∗ bigSep Finset.univ fun p : P => iprop(semVal (sCell c p) 0 ∗ semVal (rCell c p) 0))

/-! ## Handing the pieces round -/

omit [FloatOps F] in
theorem both {A : Type} [DecidableEq A] (S : Finset A) (Φ Ψ : A → sProp 𝕄) : iprop(bigSep S Φ ∗ bigSep S Ψ) ⊢ bigSep S fun a => iprop(Φ a ∗ Ψ a) :=
  Entails.of_eq (bigSep_sep' S Φ Ψ).symm
omit [FloatOps F] in
theorem each_of {A : Type} [DecidableEq A] (S : Finset A) (Φ Ψ : A → sProp 𝕄) : (bigSep S fun a => iprop(Φ a ∗ Ψ a)) ⊢ iprop(bigSep S Φ ∗ bigSep S Ψ) :=
  Entails.of_eq (bigSep_sep' S Φ Ψ)

/-- The receive buffer: its own slab, and the seven that are lent with the signals. -/
theorem recv_lend (c : Dev nD) (f : Buf (Elt F) (rLoc c)) :
    (rLoc c ↦{fullShare} f : sProp 𝕄)
      ⊢ iprop((rLoc c ↦[(sRect 0).set]{fullShare} f) ∗ bigSep S7 fun s => bigSep Finset.univ fun t : Fin 4 => rFree (F := F) c (-s, t)) := by
  rw [recv_split, bigSep_univ_at _ (0 : Fin 8)]
  refine sep_mono_right ?_
  refine (bigSep_mono (Ψ := fun s => bigSep Finset.univ fun t : Fin 4 => rFree (F := F) c (s, t)) fun s _ => slab_split c s f).trans ?_
  exact Entails.of_eq (steps_neg fun s => bigSep Finset.univ fun t : Fin 4 => rFree (F := F) c (s, t))
theorem recv_back (c : Dev nD) (f : Buf (Elt F) (rLoc c)) :
    iprop((rLoc c ↦[(sRect 0).set]{fullShare} f) ∗ bigSep S7 fun s => iprop(∃ g : Buf (Elt F) (rLoc c), rLoc c ↦[(sRect s).set]{fullShare} g))
      ⊢ iprop(∃ g : Buf (Elt F) (rLoc c), (rLoc c ↦{fullShare} g : sProp 𝕄)) := by
  refine (sep_mono_left (some_contents (rLoc c) _ f)).trans ?_
  refine .trans ?_ (recv_join c)
  rw [bigSep_univ_at _ (0 : Fin 8)]

/-- The slabs the barrier hands over, tile by tile. -/
theorem slabs_tiles (c : Dev nD) : (bigSep S7 fun d => slab (F := F) c d) ⊢ bigSep SN fun p => rFree (F := F) (peer c p.1) p := by
  rw [sends_eq]; exact BI.Entails.refl _

theorem send_cut (c : Dev nD) (f : Buf (Elt F) (sLoc c)) :
    (sLoc c ↦{fullShare} f : sProp 𝕄) ⊢ iprop((bigSep Finset.univ fun t : Fin 4 => sFree (F := F) c (0, t)) ∗ bigSep SN fun p => sFree (F := F) c p) :=
  (send_split c f).trans (Entails.of_eq (sends_split _))
theorem send_back (c : Dev nD) :
    iprop((bigSep Finset.univ fun t : Fin 4 => sFree (F := F) c (0, t)) ∗ bigSep SN fun p => sFull x W c p)
      ⊢ iprop(∃ g : Buf (Elt F) (sLoc c), sLoc c ↦{fullShare} g) := by
  refine (sep_mono_right (bigSep_mono (Ψ := fun p => sFree (F := F) c p) fun p _ => sFull_free x W c p)).trans ?_
  exact (Entails.of_eq (sends_split _).symm).trans (send_join c)

/-- The places of the cells: those no copy uses, and the rest. -/
theorem places_cut (c : Dev nD) :
    (bigSep Finset.univ fun p : P => (iprop(atPos ER (sCell c p) 0 ∅ 0 ∗ atPos ER (rCell c p) 0 ∅ 0) : sProp 𝕄))
      ⊢ iprop((bigSep Finset.univ fun t : Fin 4 => iprop(atPos ER (sCell c (0, t)) 0 ∅ 0 ∗ atPos ER (rCell c (0, t)) 0 ∅ 0))
        ∗ (bigSep SN fun p => atPos ER (sCell c p) 0 ∅ 0) ∗ bigSep SN fun p => atPos ER (rCell c p) 0 ∅ 0) := by
  rw [sends_split]
  exact sep_mono_right (each_of SN _ _)

theorem rest_join (c : Dev nD) :
    iprop((bigSep Finset.univ fun t : Fin 4 => iprop(semVal (sCell c (0, t)) 0 ∗ semVal (rCell c (0, t)) 0))
        ∗ (bigSep SN fun p => semVal (sCell c p) 0) ∗ bigSep S7 fun s => bigSep Finset.univ fun t : Fin 4 => semVal (rCell c (s, t)) 0)
      ⊢ (bigSep Finset.univ fun p : P => iprop(semVal (sCell c p) 0 ∗ semVal (rCell c p) 0) : sProp 𝕄) := by
  rw [sends_split (fun p : P => (iprop(semVal (sCell c p) 0 ∗ semVal (rCell c p) 0) : sProp 𝕄)), ← sends_eq (fun p => (semVal (rCell c p) 0 : sProp 𝕄))]
  exact sep_mono_right (both SN _ _)

/-- The weight buffer's two slots at rest. -/
theorem idle_both (c : Dev nD) (f : Buf (Elt F) (lLoc c)) : iprop((lLoc c ↦{fullShare} f) ∗ Weights W c) ⊢ iprop(Idle W c 0 ∗ Idle W c 1) := by
  unfold Weights
  iintro ⟨Hl, H0, H1, Hw⟩
  ihave Hl' := (load_split c f) $$ Hl
  icases Hl' with ⟨Hl0, Hl1⟩
  ihave Hw' := (pointsTo_share (PosShare.mem_left_op_right fullShare)).1 $$ Hw
  icases Hw' with ⟨Hw0, Hw1⟩
  unfold Idle lFree
  rw [show wq 0 = fullShare.left from rfl, show wq 1 = fullShare.right from rfl]
  isplitl [Hl0 H0 Hw0]
  · isplitl [Hl0]; · iexact Hl0
    isplitl [H0] <;> iassumption
  · isplitl [Hl1]; · iexact Hl1
    isplitl [H1] <;> iassumption
theorem idle_back (c : Dev nD) : iprop(Idle W c 0 ∗ Idle W c 1) ⊢ iprop((∃ g : Buf (Elt F) (lLoc c), lLoc c ↦{fullShare} g) ∗ Weights W c) := by
  unfold Idle
  rw [show wq 0 = fullShare.left from rfl, show wq 1 = fullShare.right from rfl]
  iintro ⟨⟨Hl0, H0, Hw0⟩, Hl1, H1, Hw1⟩
  isplitl [Hl0 Hl1]
  · iapply (load_join c)
    unfold lFree
    isplitl [Hl0] <;> iassumption
  unfold Weights
  isplitl [H0]; · iexact H0
  isplitl [H1]; · iexact H1
  iapply (pointsTo_share (PosShare.mem_left_op_right fullShare)).2
  isplitl [Hw0] <;> iassumption

theorem own_last : (Finset.univ : Finset (Fin 4)) = insert 3 ([0, 1, 2] : List (Fin 4)).toFinset := by decide
theorem own_cut (Φ : Fin 4 → sProp 𝕄) : bigSep Finset.univ Φ = iprop(Φ 3 ∗ bigSep ([0, 1, 2] : List (Fin 4)).toFinset Φ) := by
  rw [own_last, sep_insert (by decide)]

/-! ## The body -/

theorem run_body (c : Dev nD) (h3 : (bM : Memref sig .tc .vmem S512x4096 .bf16).IsWhole) (h5 : (sM : Memref sig .tc .vmem S8x512x1024 .bf16).IsWhole)
    (h6 : (rM : Memref sig .tc .vmem S8x512x1024 .bf16).IsWhole) (Q : PUnit → sProp 𝕄) :
    iprop(Held x W K c ∗ Weights W c ∗ Scratch c ∗ Ow c (O₀ c) ∗ xPts c (x c) ∗ (∃ f : Buf (Elt F) (oLoc c), oLoc c ↦{fullShare} f))
      ⊢ iprop(((Rest c ∗ Weights W c ∗ Scratch c ∗ Ow c 0 ∗ xPts c (x c) ∗ (oLoc c ↦{fullShare} outv x W c)) -∗ Q ⟨⟩)
        -∗ WP c (body xM wM oM bM h3 lM sM h5 rM h6 cc0_scratch4 cc0_scratch5 cc0_scratch6) Q) := by
  unfold body Held Scratch
  simp only [Prog.lift, Prog.bind_op, Prog.bind_ret, wp_deviceId]
  iintro ⟨⟨#HR, Htb, Hcb, Hab, Htok, Hat, Hcr⟩, Hw, ⟨Hb, ⟨%fl, Hl⟩, ⟨%fs, Hs⟩, ⟨%fr, Hr⟩⟩, HO, Hx, ⟨%fo, Ho⟩⟩ Hk
  -- the signals, each with a slab of the receive buffer
  ihave Hr' := (recv_lend c fr) $$ Hr
  icases Hr' with ⟨Hr0, Hr⟩
  ihave Hsig := (both S7 (fun s => dutyTok ER (barCell (peer c s)) 0 (-s)) (fun s => bigSep Finset.univ fun t : Fin 4 => rFree (F := F) c (-s, t))) $$ [Htb Hr]
  · isplitl [Htb] <;> iassumption
  iapply (run_signals x W K c _) $$ [Hsig HO]
  · isplitr; · iexact HR
    isplitl [Hsig]; · unfold sigRes; iexact Hsig
    iexact HO
  iintro HO
  -- the barrier: the peers' slabs
  iapply (wp_bar x W K c _) $$ [Hcb Hab HO]
  · isplitr; · iexact HR
    isplitl [Hcb]; · iexact Hcb
    isplitl [Hab] <;> iassumption
  iintro ⟨Hslab, HzB, HO⟩
  -- the cast
  iapply (wp_castX x c _ h3) $$ [Hx Hb]
  · isplitl [Hx] <;> iassumption
  iintro ⟨Hx, Hb⟩
  -- the first load
  ihave Hi := (idle_both W c fl) $$ [Hl Hw]
  · isplitl [Hl] <;> iassumption
  icases Hi with ⟨Hi0, Hi1⟩
  ihave Hi0' := (Entails.of_eq (congrArg (Idle W c) (show (0 : Fin 2) = slot ((1, 0) : P).2 from rfl))) $$ Hi0
  iapply (wp_startW W c (1, 0) _) $$ Hi0'
  iintro Hld
  -- the tiles that are sent
  ihave Hp := (slabs_tiles c) $$ Hslab
  ihave Hs' := (send_cut c fs) $$ Hs
  icases Hs' with ⟨Hs0, Hs⟩
  ihave Hres := (both SN (fun p => rFree (F := F) (peer c p.1) p) (fun p => iprop(dutyTok ER (sCell c p) 0 0 ∗ dutyTok ER (rCell (peer c p.1) p) 0 0))) $$ [Hp Htok]
  · isplitl [Hp] <;> iassumption
  ihave Hres' := (both SN (fun p => sFree (F := F) c p) (fun p => iprop(rFree (F := F) (peer c p.1) p ∗ dutyTok ER (sCell c p) 0 0 ∗ dutyTok ER (rCell (peer c p.1) p) 0 0))) $$ [Hs Hres]
  · isplitl [Hs] <;> iassumption
  iapply (run_sends x W K c _ h3 h5 h6) $$ [Hres' Hld Hi1 Hb HO]
  · isplitr; · iexact HR
    isplitl [Hres']; · unfold sendRes; iexact Hres'
    unfold sendInv
    isplitl [Hld]; · iexact Hld
    isplitl [Hi1]; · iexact Hi1
    isplitl [Hb] <;> iassumption
  iintro ⟨Hcs, Hinv⟩
  -- the own tiles
  ihave Ho' := (out_cut c fo) $$ Ho
  icases Ho' with ⟨Hown, Hrow⟩
  ihave Hown' := (Entails.of_eq (own_cut fun t => ownFree (F := F) c t)) $$ Hown
  icases Hown' with ⟨Hown3, Hown⟩
  iapply (run_owns x W K c _) $$ [Hown Hinv]
  · isplitr; · iexact HR
    isplitl [Hown]; · iexact Hown
    unfold sendInv ownInv; iexact Hinv
  iintro ⟨Hown, Hinv⟩
  unfold ownInv
  icases Hinv with ⟨Hld, Hi0, Hb, HO⟩
  iapply (wp_own x W K c 3 _) $$ [Hown3 Hld Hb HO]
  · isplitr; · iexact HR
    isplitl [Hown3]; · iexact Hown3
    isplitl [Hld]; · iexact Hld
    isplitl [Hb] <;> iassumption
  iintro ⟨Hown3, Hi1, Hb, HO⟩
  ihave Hfull := (Entails.of_eq (own_cut fun t => ownFull x W c t).symm) $$ [Hown Hown3]
  · isplitl [Hown3] <;> iassumption
  -- the tiles that arrive
  ihave Hat' := (places_cut c) $$ Hat
  icases Hat' with ⟨Hat0, Hats, Hatr⟩
  ihave Hwr := (both SN (fun p => cred (tallyAt (rCell c p) () N)) (fun p => atPos ER (rCell c p) 0 ∅ 0)) $$ [Hcr Hatr]
  · isplitl [Hcr] <;> iassumption
  ihave Hwr' := (Entails.of_eq (sends_eq fun p => waitRes (F := F) (rCell c p))) $$ [Hwr]
  · unfold waitRes; iexact Hwr
  ihave Hwr := (both S7 (fun s => bigSep Finset.univ fun t : Fin 4 => waitRes (F := F) (rCell c (s, t))) (fun s => rowFree (F := F) c s)) $$ [Hwr' Hrow]
  · isplitl [Hwr'] <;> iassumption
  iapply (run_recvs x W K c _ h5 h6) $$ [Hwr HO]
  · isplitr; · iexact HR
    isplitl [Hwr] <;> iassumption
  iintro ⟨Hrec, HO⟩
  unfold recvOut
  ihave Hrec' := (each_of S7 _ _) $$ Hrec
  icases Hrec' with ⟨Hzr, Hrec⟩
  ihave Hrec' := (each_of S7 _ _) $$ Hrec
  icases Hrec' with ⟨Hr, Hrow⟩
  -- the waits for the tiles sent
  ihave Hws := (both SN (fun p => cred (tallyAt (sCell c p) () N)) (fun p => atPos ER (sCell c p) 0 ∅ 0)) $$ [Hcs Hats]
  · isplitl [Hcs] <;> iassumption
  rw [← bind_pure (each sends _)]
  iapply (run_waits x W K c _ h5 h6) $$ [Hws HO]
  · isplitr; · iexact HR
    isplitl [Hws]; · unfold waitRes; iexact Hws
    iexact HO
  iintro ⟨Hzs, HO⟩
  ihave Hzs' := (each_of SN _ _) $$ Hzs
  icases Hzs' with ⟨Hzs, Hs⟩
  imod (close_owns x W K c) $$ [Hat0] with Hz0
  · isplitr; · iexact HR
    iexact Hat0
  rw [Prog.pure_eq_ret, wp_ret]; imodintro
  iapply Hk
  isplitl [HzB Hz0 Hzs Hzr]
  · unfold Rest
    isplitl [HzB]; · iexact HzB
    iapply (rest_join c)
    isplitl [Hz0]; · iexact Hz0
    isplitl [Hzs] <;> iassumption
  ihave Hi := (idle_back W c) $$ [Hi0 Hi1]
  · isplitl [Hi0]; · iexact Hi0
    iexact Hi1
  icases Hi with ⟨Hl, Hw⟩
  isplitl [Hw]; · iexact Hw
  isplitl [Hb Hl Hs0 Hs Hr0 Hr]
  · isplitl [Hb]; · iexists _; iexact Hb
    isplitl [Hl]; · iexact Hl
    isplitl [Hs0 Hs]
    · iapply (send_back x W c); isplitl [Hs0] <;> iassumption
    iapply (recv_back c fr); isplitl [Hr0] <;> iassumption
  isplitl [HO]; · iexact HO
  isplitl [Hx]; · iexact Hx
  iapply (out_join x W c)
  isplitl [Hfull] <;> iassumption

end Body

end Cert.KernelIdeal.A2A

end
-- ==== Proof.Oblig.lean ====
/-
The body as the pipeline runs it: what the staging buffers hold before and after, and the obligation.
-/
module

public import proofs.«01_k».proof.Proof.Body

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch, all counters at zero. -/
def s₀ : MemSt nD τ sig (Elt F) := ⟨m, fun _ => 0, ρ⟩

/-- A device's block of the left factor, and its copy of the right one. -/
def xin (c : Dev nD) : Vec F S512x4096 .f32 := (win0_0.blk (0 : Fin 1)).view.read (Elt F) ((s₀ m ρ).mem ((c : Thread nD τ).loc main_arg0))
def win (c : Dev nD) : (main_arg1 : Ref sig .tc).ty.Contents (Elt F) := m ((c : Thread nD τ).loc main_arg1)

theorem xin_eq (c : Dev nD) : xin m ρ c = m ((c : Thread nD τ).loc main_arg0) := by
  have hz : (fun a => (win0_0.index (0 : Fin 1)) a * main_arg0.ty.shape.size a) = fun _ => 0 := funext fun a => by fin_cases a <;> decide
  unfold xin
  exact Memref.read_access_unit_zero (Elt F) main_arg0 hz (fun a => by fin_cases a <;> decide) _

/-- The result of device `c`. -/
def res (c : Dev nD) : Vec F S4096x1024 .f32 := outv (xin m ρ) (win m) c

/-- Before the body, and after it. -/
def Φ₀ (c : Dev nD) : sProp 𝕄 := iprop((∃ K, Held (xin m ρ) (win m) K c) ∗ Weights (win m) c ∗ Scratch c)
def Φ₁ (c : Dev nD) : sProp 𝕄 := iprop(Rest c ∗ Weights (win m) c ∗ Scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => res m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-- The one point of the grid. -/
abbrev pt : Fin cfg0.N := t0_0

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_x (t : Fin cfg0.N) : (cfg0.win (0 : Fin 2)).fetch t = true := by rw [fin_N0 t]; rfl

def bodyPre (c : Dev nD) : sProp 𝕄 :=
  iprop(Φ₀ m ρ c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))

def bodyPost (c : Dev nD) : sProp 𝕄 :=
  iprop(Φ₁ m c ∗ (dats m ρ 0 c).owesAt () pt.succ ∗ stg c cc0_stg0_0 (xin m ρ c) ∗ stg c cc0_stg1_0 (res m ρ c))

theorem body_sound (c : Dev nD) :
    bodyPre m ρ c ⊢ wp frame (wpE (defs₀ (F := F)) 𝒱₀ (c : Thread nD τ) none) Set.univ
      (cc0_body (Memref.whole cc0_stg0_0) (Memref.isWhole_whole _) (Memref.whole main_arg1) (Memref.isWhole_whole _) (Memref.whole cc0_stg1_0) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) cc0_scratch4 cc0_scratch5 cc0_scratch6) (fun _ => bodyPost m ρ c) := by
  rw [body_eq]
  unfold bodyPre Φ₀
  iintro ⟨⟨⟨%K, Hg⟩, Hw, Hs⟩, Ho, ⟨%d0, %g0, %hg0, Hx⟩, ⟨%d1, %g1, %hg1, Hout⟩⟩
  have hx : g0 = xin m ρ c := by rw [hg0]; unfold Dat.before; rw [if_pos (fetch_x pt)]; rfl
  subst hx
  unfold Dat.owesAt Pipeline.owesWithin
  icases Ho with ⟨%V, %hV, HO⟩
  rw [show (dats m ρ 0 c).owed pt.castSucc = O₀ c from rfl]
  iapply (run_body (xin m ρ) (win m) K c (Memref.isWhole_whole _) (Memref.isWhole_whole _) (Memref.isWhole_whole _) (fun _ => bodyPost m ρ c)) $$ [Hg Hw Hs HO Hx Hout]
  · isplitl [Hg]; · iexact Hg
    isplitl [Hw]; · iexact Hw
    isplitl [Hs]; · iexact Hs
    isplitl [HO]; · unfold Ow; iexists V; iexact HO
    isplitl [Hx]; · iexact Hx
    iexists g1; iexact Hout
  iintro ⟨Hr, Hw, Hs, HO, Hx, Hout⟩
  unfold bodyPost Φ₁ Dat.owesAt Pipeline.owesWithin
  rw [show (dats m ρ 0 c).owed pt.succ = 0 from rfl]
  isplitl [Hr Hw Hs]
  · isplitl [Hr]; · iexact Hr
    isplitl [Hw] <;> iassumption
  isplitl [HO]
  · unfold Ow
    icases HO with ⟨%V', HO⟩
    iexists V'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [fin_N0 t]
  rw [bigSep_W0, bigSep_W0]
  simp only [owns_buffer]
  exact body_sound m ρ c

end Cert.KernelIdeal.A2A

end
-- ==== Proof.Launch.lean ====
/-
The launch: the cells' rounds are funded, the tokens are dealt to the devices that pay with them, every
cell's invariant is opened, and each device gets the credits that the others owe it.
-/
module

public import proofs.«01_k».proof.Proof.Oblig

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev Sk : Type := Fin 2 ⊕ (P ⊕ P)
def osem : Sk → SemLoc sig
  | .inl j => .dma (wS j)
  | .inr (.inl p) => .dma (sS p)
  | .inr (.inr p) => .dma (rS p)

/-- The number of one of them. -/
def osemVal : Sk → ℕ
  | .inl j => 2 + j.val
  | .inr (.inl p) => 4 + (4 * p.1.val + p.2.val)
  | .inr (.inr p) => 36 + (4 * p.1.val + p.2.val)
theorem osem_val (k : Sk) : ∃ d : DmaSem sig, osem k = .dma d ∧ d.val = osemVal k := by
  rcases k with j | p | p
  · exact ⟨wS j, rfl, wS_val j⟩
  · exact ⟨sS p, rfl, sS_val p⟩
  · exact ⟨rS p, rfl, rS_val p⟩
theorem osemVal_inj : Function.Injective osemVal := by
  rintro (j | ⟨s, t⟩ | ⟨s, t⟩) (j' | ⟨s', t'⟩ | ⟨s', t'⟩) h <;> simp only [osemVal] at h
  · exact congrArg _ (Fin.ext (by omega))
  · omega
  · omega
  · omega
  · have h1 : s = s' := Fin.ext (by omega)
    have h2 : t = t' := Fin.ext (by omega)
    rw [h1, h2]
  · omega
  · omega
  · omega
  · have h1 : s = s' := Fin.ext (by omega)
    have h2 : t = t' := Fin.ext (by omega)
    rw [h1, h2]

theorem ownSemFacts : Pipeline.OwnSemFacts cfg0.spec osem where
  isScoped := by decide +kernel
  inj := fun k k' h => by
    obtain ⟨d, hd, hv⟩ := osem_val k
    obtain ⟨d', hd', hv'⟩ := osem_val k'
    rw [hd, hd'] at h
    have e : d = d' := by injection h
    exact osemVal_inj (by rw [← hv, ← hv', e])
  disj := by decide +kernel

theorem share_eq (c : Dev nD) (w : Fin cfg0.W) : (dats m ρ 0 c).share w = fullShare := by unfold Dat.share; split <;> rfl

/-! ## The cells and the tokens -/

def cells : Finset (GSem nD τ sig) := Finset.univ.map ⟨kcell, kcell_injective⟩

/-- The duties of a device's own cells. -/
abbrev Tk : Type := Fin 8 ⊕ (P ⊕ P)
def tokOf (ck : Dev nD × Tk) : GSem nD τ sig × ℕ × Fin 8 := match ck.2 with
  | .inl s => (barCell ck.1, 0, s)
  | .inr (.inl p) => (sCell ck.1 p, 0, 0)
  | .inr (.inr p) => (rCell ck.1 p, 0, 0)
theorem tokOf_injective : Function.Injective tokOf := by
  have hk (c c' : Dev nD) (k k' : Ck) (h : kcell (c, k) = kcell (c', k')) : c = c' ∧ k = k' := by
    have := kcell_injective h
    exact ⟨congrArg Prod.fst this, congrArg Prod.snd this⟩
  rintro ⟨c, s | p | p⟩ ⟨c', s' | p' | p'⟩ h
  · obtain ⟨h1, -⟩ := hk c c' (.inl ()) (.inl ()) (congrArg Prod.fst h)
    have h2 : s = s' := congrArg (fun g : GSem nD τ sig × ℕ × Fin 8 => g.2.2) h
    rw [h1, h2]
  · exact nomatch (hk c c' (.inl ()) (.inr (.inl p')) (congrArg Prod.fst h)).2
  · exact nomatch (hk c c' (.inl ()) (.inr (.inr p')) (congrArg Prod.fst h)).2
  · exact nomatch (hk c c' (.inr (.inl p)) (.inl ()) (congrArg Prod.fst h)).2
  · obtain ⟨h1, h2⟩ := hk c c' (.inr (.inl p)) (.inr (.inl p')) (congrArg Prod.fst h)
    injection h2 with h2; injection h2 with h2
    rw [h1, h2]
  · exact nomatch (hk c c' (.inr (.inl p)) (.inr (.inr p')) (congrArg Prod.fst h)).2
  · exact nomatch (hk c c' (.inr (.inr p)) (.inl ()) (congrArg Prod.fst h)).2
  · exact nomatch (hk c c' (.inr (.inr p)) (.inr (.inl p')) (congrArg Prod.fst h)).2
  · obtain ⟨h1, h2⟩ := hk c c' (.inr (.inr p)) (.inr (.inr p')) (congrArg Prod.fst h)
    injection h2 with h2; injection h2 with h2
    rw [h1, h2]
def tokens : Finset (GSem nD τ sig × ℕ × Fin 8) := Finset.univ.map ⟨tokOf, tokOf_injective⟩

/-- The tokens of a device's own cells, and the tokens it pays with. -/
def ownToks (c : Dev nD) : sProp 𝕄 :=
  iprop((bigSep Finset.univ fun s : Fin 8 => dutyTok ER (barCell c) 0 s) ∗ (bigSep Finset.univ fun p : P => dutyTok ER (sCell c p) 0 0)
    ∗ bigSep Finset.univ fun p : P => dutyTok ER (rCell c p) 0 0)
def payToks (c : Dev nD) : sProp 𝕄 :=
  iprop((bigSep Finset.univ fun s : Fin 8 => dutyTok ER (barCell (peer c s)) 0 (-s)) ∗ (bigSep Finset.univ fun p : P => dutyTok ER (sCell c p) 0 0)
    ∗ bigSep Finset.univ fun p : P => dutyTok ER (rCell (peer c p.1) p) 0 0)

def u₀ : UU := (initOf (Pipeline.cells cfgs cellOf_inj) (Pipeline.launchToks cfgs cellOf_inj), (initOf cells tokens, 1))

omit [FloatOps F] in
theorem start_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch deals a device, -/
def G (c : Dev nD) : sProp 𝕄 :=
  iprop((bigSep Finset.univ fun k : Ck => roundState ER (Sch (xin m ρ) (win m)) (kcell (c, k)) 0)
    ∗ (bigSep Finset.univ fun k : Ck => iprop(atPos ER (kcell (c, k)) 0 ∅ 0 ∗ reached ER (kcell (c, k)) 0)) ∗ ownToks c)

/-- the records without the levels, -/
def Recs (K : Dev nD × Ck → ℕ) : sProp 𝕄 :=
  iprop((bigSep Finset.univ fun ck : Dev nD × Ck => cellInv ER (Sch (xin m ρ) (win m)) (K ck) (kcell ck))
    ∗ bigSep Finset.univ fun ck : Dev nD × Ck => reached ER (kcell ck) 0)
instance Recs_persistent (K : Dev nD × Ck → ℕ) : BI.Persistent (Recs m ρ K) := by unfold Recs; infer_instance

/-- and what a device has of its own once all invariants stand. -/
def Own (c : Dev nD) : sProp 𝕄 :=
  iprop((bigSep Finset.univ fun k : Ck => atPos ER (kcell (c, k)) 0 ∅ 0)
    ∗ (semVal ((c : Thread nD τ), .dma (wS 0)) 0 ∗ semVal ((c : Thread nD τ), .dma (wS 1)) 0) ∗ payToks c)
def G' (c : Dev nD) : sProp 𝕄 := iprop(∃ K, Recs m ρ K ∗ Own c)

theorem fund_all : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : Ck => Φ (kcell (c, k)) := by
    unfold cells; rw [bigSep_map, bigSep_univ_prod]; rfl
  have hT : bigSep tokens (fun x => (dutyTok ER x.1 x.2.1 x.2.2 : sProp 𝕄)) = bigSep Finset.univ fun c : Dev nD => ownToks c := by
    unfold tokens; rw [bigSep_map, bigSep_univ_prod]
    exact bigSep_congr fun c _ => by unfold ownToks; rw [bigSep_univ_sum, bigSep_univ_sum]; rfl
  iintro HX
  imod (Rounds.fund ER (Sch (xin m ρ) (win m)) cells tokens) $$ HX with ⟨Hst, Hr, Hat, Htok⟩
  imodintro
  ihave Hst' := (Entails.of_eq (hX fun g => roundState ER (Sch (xin m ρ) (win m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
theorem ownSems_eq (c : Dev nD) : (Pipeline.ownSems0 (Ix := Unit) (Name := ℕ) (U := UU) (Lvl := ℕ) (Val := Elt F) (τ := τ) osem c : sProp 𝕄)
    = iprop((semVal ((c : Thread nD τ), .dma (wS 0)) 0 ∗ semVal ((c : Thread nD τ), .dma (wS 1)) 0)
      ∗ (bigSep Finset.univ fun p : P => semVal (sCell c p) 0) ∗ bigSep Finset.univ fun p : P => semVal (rCell c p) 0) := by
  unfold Pipeline.ownSems0
  rw [bigSep_univ_sum, bigSep_univ_sum, bigSep_univ_two]
  rfl
omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem cells_split (Φ : Ck → sProp 𝕄) :
    bigSep Finset.univ Φ = iprop(Φ (.inl ()) ∗ (bigSep Finset.univ fun p : P => Φ (.inr (.inl p))) ∗ bigSep Finset.univ fun p : P => Φ (.inr (.inr p))) := by
  rw [bigSep_univ_sum, bigSep_univ_sum, Finset.univ_unique, BI.bigSep_singleton]
  rfl

omit [FloatOps F] in
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Ck => semVal (kcell (c, k)) 0)
        ∗ semVal ((c : Thread nD τ), .dma (wS 0)) 0 ∗ semVal ((c : Thread nD τ), .dma (wS 1)) 0) : sProp 𝕄) := by
  rw [ownSems_eq, unscoped_eq, cells_split]
  iintro ⟨⟨HW, HS, HV⟩, HB⟩
  isplitl [HB HS HV]
  · isplitl [HB]; · iexact HB
    isplitl [HS]; · iexact HS
    iexact HV
  iexact HW

theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Ck => iprop(∃ κ : ℕ, cellInv ER (Sch (xin m ρ) (win m)) κ (kcell (c, k))))
          ∗ (bigSep Finset.univ fun k : Ck => iprop(atPos ER (kcell (c, k)) 0 ∅ 0 ∗ reached ER (kcell (c, k)) 0))
          ∗ (semVal ((c : Thread nD τ), .dma (wS 0)) 0 ∗ semVal ((c : Thread nD τ), .dma (wS 1)) 0) ∗ ownToks c) := by
  unfold G
  iintro ⟨Hos, Hus, Hst, Hat, Htok⟩
  ihave Hv := (sems_split (F := F) c) $$ [Hos Hus]
  · isplitl [Hos] <;> iassumption
  icases Hv with ⟨Hv, Hw⟩
  imod (show iprop((bigSep Finset.univ fun k : Ck => semVal (kcell (c, k)) 0) ∗ bigSep Finset.univ fun k : Ck => roundState ER (Sch (xin m ρ) (win m)) (kcell (c, k)) 0)
      ⊢ (|={Set.univ}=> bigSep Finset.univ fun k : Ck => iprop(∃ κ : ℕ, cellInv ER (Sch (xin m ρ) (win m)) κ (kcell (c, k))) : sProp 𝕄) from by
        rw [← bigSep_sep']
        exact (bigSep_mono fun k _ => (Rounds.body_intro ER (Sch (xin m ρ) (win m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hw] <;> iassumption

theorem neg_neg8 (s : Fin 8) : -(-s) = s := by revert s; decide

/-- The pairs (device, step) seen from the other end. -/
def turn : Dev nD × Fin 8 ≃ Dev nD × Fin 8 where
  toFun cs := (peer cs.1 cs.2, -cs.2)
  invFun cs := (peer cs.1 cs.2, -cs.2)
  left_inv := fun cs => Prod.ext (peer_peer_neg cs.1 cs.2) (neg_neg8 cs.2)
  right_inv := fun cs => Prod.ext (peer_peer_neg cs.1 cs.2) (neg_neg8 cs.2)
/-- A tile's receiver, for its sender. -/
def across : Dev nD × P ≃ Dev nD × P where
  toFun cp := (peer cp.1 cp.2.1, cp.2)
  invFun cp := (back cp.1 cp.2.1, cp.2)
  left_inv := fun cp => Prod.ext (back_peer cp.1 cp.2.1) rfl
  right_inv := fun cp => Prod.ext (peer_back cp.1 cp.2.1) rfl

omit [FloatOps F] in
theorem deal_bar : (bigSep Finset.univ fun c : Dev nD => bigSep Finset.univ fun s : Fin 8 => (dutyTok ER (barCell c) 0 s : sProp 𝕄))
    = bigSep Finset.univ fun c : Dev nD => bigSep Finset.univ fun s : Fin 8 => dutyTok ER (barCell (peer c s)) 0 (-s) := by
  rw [← bigSep_univ_prod (fun cs : Dev nD × Fin 8 => (dutyTok ER (barCell cs.1) 0 cs.2 : sProp 𝕄)), bigSep_univ_equiv turn,
    ← bigSep_univ_prod (fun cs : Dev nD × Fin 8 => (dutyTok ER (barCell (peer cs.1 cs.2)) 0 (-cs.2) : sProp 𝕄))]
  rfl
omit [FloatOps F] in
theorem deal_recv : (bigSep Finset.univ fun c : Dev nD => bigSep Finset.univ fun p : P => (dutyTok ER (rCell c p) 0 0 : sProp 𝕄))
    = bigSep Finset.univ fun c : Dev nD => bigSep Finset.univ fun p : P => dutyTok ER (rCell (peer c p.1) p) 0 0 := by
  rw [← bigSep_univ_prod (fun cp : Dev nD × P => (dutyTok ER (rCell cp.1 cp.2) 0 0 : sProp 𝕄)), bigSep_univ_equiv across,
    ← bigSep_univ_prod (fun cp : Dev nD × P => (dutyTok ER (rCell (peer cp.1 cp.2.1) cp.2) 0 0 : sProp 𝕄))]
  rfl
omit [FloatOps F] in
theorem deal : (bigSep Finset.univ fun c : Dev nD => (ownToks c : sProp 𝕄)) ⊢ bigSep Finset.univ fun c : Dev nD => payToks c := by
  unfold ownToks payToks
  rw [bigSep_sep', bigSep_sep', bigSep_sep', bigSep_sep', deal_bar, deal_recv]

theorem hand_out :
    (bigSep Finset.univ fun c : Dev nD => iprop((bigSep Finset.univ fun k : Ck => iprop(∃ κ : ℕ, cellInv ER (Sch (xin m ρ) (win m)) κ (kcell (c, k))))
          ∗ (bigSep Finset.univ fun k : Ck => iprop(atPos ER (kcell (c, k)) 0 ∅ 0 ∗ reached ER (kcell (c, k)) 0))
          ∗ (semVal ((c : Thread nD τ), .dma (wS 0)) 0 ∗ semVal ((c : Thread nD τ), .dma (wS 1)) 0) ∗ ownToks c) : sProp 𝕄)
      ⊢ bigSep Finset.univ (G' m ρ) := by
  rw [bigSep_sep', bigSep_sep', bigSep_sep', ← bigSep_univ_prod (fun ck : Dev nD × Ck => iprop(∃ κ : ℕ, cellInv ER (Sch (xin m ρ) (win m)) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Hw, Htok⟩
  ihave HK := (BI.bigSep_exists_pi Finset.univ (fun (ck : Dev nD × Ck) (κ : ℕ) => (cellInv ER (Sch (xin m ρ) (win m)) κ (kcell ck) : sProp 𝕄))) $$ HI
  icases HK with ⟨%K, #HI⟩
  ihave Htk := (deal (F := F)) $$ Htok
  ihave H1 := (both Finset.univ (fun c : Dev nD => iprop(semVal ((c : Thread nD τ), .dma (wS 0)) 0 ∗ semVal ((c : Thread nD τ), .dma (wS 1)) 0)) (fun c : Dev nD => payToks (F := F) c)) $$ [Hw Htk]
  · isplitl [Hw] <;> iassumption
  ihave H2 := (both Finset.univ (fun c : Dev nD => bigSep Finset.univ fun k : Ck => (atPos ER (kcell (c, k)) 0 ∅ 0 : sProp 𝕄)) _) $$ [Hat H1]
  · isplitl [Hat] <;> iassumption
  iapply (spread (Recs m ρ K) Finset.univ (fun c : Dev nD => Own (F := F) c) (G' m ρ) fun c _ => by
    unfold G'
    iintro H
    iexists K
    iexact H)
  isplitr
  · unfold Recs; isplitl; · iexact HI
    iexact HR
  unfold Own; iexact H2

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (hand_out m ρ))

/-! ## The credits -/

omit [FloatOps F] in
theorem creds_recv (c : Dev nD) : ∀ l : List P, l.Nodup →
    (Pipeline.launchCred (fun d => owedSend d l) c : sProp 𝕄) ⊢ bigSep l.toFinset fun p => cred (tallyAt (rCell c p) () N)
  | [], _ => by
    show (Pipeline.launchCred (fun _ : Dev nD => (0 : CellTallies nD τ sig Unit)) c : sProp 𝕄) ⊢ _
    rw [Pipeline.launchCred_zero, List.toFinset_nil, bigSep_empty]
    exact BI.Entails.refl _
  | p :: l, h => by
    have ha : p ∉ l.toFinset := fun hh => (List.nodup_cons.mp h).1 (List.mem_toFinset.mp hh)
    rw [List.toFinset_cons, sep_insert ha]
    show (Pipeline.launchCred (fun d => owedSend d l + tallyAt (rCell (peer d p.1) p) () N) c : sProp 𝕄) ⊢ _
    rw [Pipeline.launchCred_add]
    iintro ⟨Hl, Hp⟩
    isplitl [Hp]
    · iapply (Pipeline.launchCred_tallyAt (.dma (rS p)) (fun d => peer d p.1) (fun d => back d p.1) (fun c => peer_back c p.1) (fun d => back_peer d p.1) () N c)
      iexact Hp
    iapply (creds_recv c l (List.nodup_cons.mp h).2)
    iexact Hl

omit [FloatOps F] in
theorem creds_bar (c : Dev nD) : ∀ l : List (Fin 8),
    (Pipeline.launchCred (fun d => owedSig d l) c : sProp 𝕄)
      ⊢ iprop(Pipeline.launchCred (fun d => owedSend d sends) c ∗ cred (tallyAt (barCell c) () l.length))
  | [] => by
    show (Pipeline.launchCred (fun d => owedSend d sends) c : sProp 𝕄) ⊢ _
    rw [List.length_nil, tallyAt_zero, cred_zero]
    iintro H
    isplitl [H]; · iexact H
    iempintro
  | s :: l => by
    show (Pipeline.launchCred (fun d => owedSig d l + tallyAt (barCell (peer d s)) () 1) c : sProp 𝕄) ⊢ _
    rw [Pipeline.launchCred_add, List.length_cons, ← tallyAt_add]
    iintro ⟨Hl, Hp⟩
    ihave Hl' := (creds_bar c l) $$ Hl
    icases Hl' with ⟨Hs, Hb⟩
    isplitl [Hs]; · iexact Hs
    iapply (cred_add _ _).2
    isplitl [Hb]; · iexact Hb
    iapply (Pipeline.launchCred_tallyAt (.reg barS) (fun d => peer d s) (fun d => back d s) (fun c => peer_back c s) (fun d => back_peer d s) () 1 c)
    iexact Hp

omit [FloatOps F] in
theorem creds (c : Dev nD) :
    (Pipeline.launchCred O₀ c : sProp 𝕄) ⊢ iprop((bigSep SN fun p => cred (tallyAt (rCell c p) () N)) ∗ cred (tallyAt (barCell c) () 7)) :=
  (creds_bar c steps).trans (sep_mono_left (creds_recv c sends (by decide)))

/-! ## What a device starts from -/

def start (c : Dev nD) : sProp 𝕄 := iprop((∃ K, Held (xin m ρ) (win m) K c) ∗ Weights (win m) c)

omit [FloatOps F] in
/-- A part of a sum over everything. -/
theorem part {A : Type} [Fintype A] [DecidableEq A] (S : Finset A) (Φ : A → sProp 𝕄) : bigSep Finset.univ Φ ⊢ bigSep S Φ := by
  have h : (Finset.univ : Finset A) = S ∪ (Finset.univ \ S) := by rw [Finset.union_sdiff_of_subset (Finset.subset_univ S)]
  rw [h, bigSep_union Finset.disjoint_sdiff]
  exact sep_elim_left

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' Own payToks
  iintro ⟨Hw, #Hlev, Hcr, -, ⟨%K, #HR, Hat, ⟨Hw0, Hw1⟩, Htb, Hts, Htr⟩⟩
  ihave Hc := (creds (F := F) c) $$ Hcr
  icases Hc with ⟨Hcr, Hcb⟩
  ihave Hat' := (Entails.of_eq (cells_split fun k : Ck => (atPos ER (kcell (c, k)) 0 ∅ 0 : sProp 𝕄))) $$ Hat
  icases Hat' with ⟨Hab, Has, Har⟩
  ihave Htb' := (part S7 fun s : Fin 8 => (dutyTok ER (barCell (peer c s)) 0 (-s) : sProp 𝕄)) $$ Htb
  ihave Ht := (both Finset.univ (fun p : P => (dutyTok ER (sCell c p) 0 0 : sProp 𝕄)) (fun p : P => dutyTok ER (rCell (peer c p.1) p) 0 0)) $$ [Hts Htr]
  · isplitl [Hts]; · iexact Hts
    iexact Htr
  ihave Ht' := (part SN _) $$ Ht
  ihave Ha := (both Finset.univ (fun p : P => (atPos ER (sCell c p) 0 ∅ 0 : sProp 𝕄)) (fun p : P => atPos ER (rCell c p) 0 ∅ 0)) $$ [Has Har]
  · isplitl [Has]; · iexact Has
    iexact Har
  imodintro
  isplitl
  · unfold start Held Weights
    isplitl [Hcr Hcb Hab Htb' Ht' Ha]
    · iexists K
      isplitr
      · unfold Rec Recs
        icases HR with ⟨#HI, #HRe⟩
        isplitr; · iexact HI
        isplitr; · iexact HRe
        iexact Hlev
      isplitl [Htb']; · iexact Htb'
      isplitl [Hcb]; · iexact Hcb
      isplitl [Hab]; · iexact Hab
      isplitl [Ht']; · iexact Ht'
      isplitl [Ha]; · iexact Ha
      iexact Hcr
    isplitl [Hw0]; · iexact Hw0
    isplitl [Hw1]; · iexact Hw1
    iexact Hw
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start Scratch
  iintro ⟨⟨Hg, Hw⟩, -, Hs⟩
  isplitl [Hg]; · iexact Hg
  isplitl [Hw]; · iexact Hw
  iexact Hs

theorem phi1_exit (c : Dev nD) :
    (dats m ρ 0 c).Φ (Fin.last cfg0.N)
      ⊢ iprop((unscopedSems0 c ∗ (wLoc c ↦{fullShare} win m c)) ∗ Pipeline.ownSems0 osem c ∗ Pipeline.scopedRest cfg0.spec c) := by
  rw [show (dats m ρ 0 c).Φ (Fin.last cfg0.N) = Φ₁ m c from rfl, scopedRest0_eq, ownSems_eq, unscoped_eq]
  unfold Φ₁ Rest Weights Scratch
  iintro ⟨⟨HB, Hz⟩, ⟨Hw0, Hw1, Hw⟩, Hs⟩
  ihave Hz' := (each_of Finset.univ _ _) $$ Hz
  icases Hz' with ⟨HzS, HzV⟩
  isplitl [HB Hw]
  · isplitl [HB] <;> iassumption
  isplitl [Hw0 Hw1 HzS HzV]
  · isplitl [Hw0 Hw1]
    · isplitl [Hw0] <;> iassumption
    isplitl [HzS] <;> iassumption
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.A2A

end
-- ==== Proof.Run.lean ====
/-
The run: every execution ends with the results computed, the arguments unchanged and every counter at zero.
-/
module

public import proofs.«01_k».proof.Proof.Launch
public import Idealize.ShloMosaic.Lib.Pipeline.CollectiveSegs

@[expose] public section

set_option maxRecDepth 16384

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- The weights and the barrier, read off at the end. -/
theorem read_rest (c : Dev nD) (s' : Phys nD τ sig (Elt F)) :
    iprop((unscopedSems0 c ∗ (wLoc c ↦{fullShare} win m c)) ∗ emp ∗ SI s')
      ⊢ |={Set.univ}=> iprop(⌜s'.mem.mem ((c : Thread nD τ).loc main_arg1) = m ((c : Thread nD τ).loc main_arg1)
          ∧ ∀ sm : SemLoc sig, sm.isScoped .tc = false → s'.mem.sem ((c.tc : Thread nD τ), sm) = 0⌝ ∗ SI s' : sProp 𝕄) := by
  iintro ⟨⟨Hu, Hw⟩, -, HSI⟩
  icombine HSI Hw gives %h
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ h, hs⟩
  iexact HSI

set_option maxRecDepth 100000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (start_split _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ (wLoc c ↦{fullShare} win m c))) (Z := fun _ => iprop(emp))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => read_rest m c s')
    (hQ := fun _ h hs => ⟨fun c => ⟨fun w => (h c).1 w, (h c).2.2.1⟩, sem_eq_zero hs fun c => (h c).2.2.2⟩)

/-- The first argument after the run is what it was, -/
theorem finalA_x (c : Dev nD) : finalA m ρ c (0 : Fin 2) = m ((c : Thread nD τ).loc main_arg0) :=
  (dats (F := F) m ρ 0 c).arrAt_in (0 : Fin 2) rfl _

/-- and the result is the one computed. -/
theorem finalA_out (c : Dev nD) : finalA m ρ c (1 : Fin 2) = res m ρ c := by
  have hz : (fun a => (win0_1.index (0 : Fin 1)) a * main_v1.ty.shape.size a) = fun _ => 0 := funext fun a => by fin_cases a <;> decide
  have h1 := Memref.read_access_unit_zero (Elt F) main_v1 hz (fun a => by fin_cases a <;> decide) (finalA m ρ c (1 : Fin 2))
  have h2 : (win0_1.blk (0 : Fin 1)).view.read (Elt F) (finalA m ρ c (1 : Fin 2)) = res m ρ c := by
    unfold finalA
    rw [show cfg0.N = ((0 : Fin 1) : Fin cfg0.N).val + 1 from rfl, (dats m ρ 0 c).arrAt_succ (1 : Fin 2) (0 : Fin 1),
      show (cfg0.win 1).flush (0 : Fin 1) = true from by decide, if_pos rfl]
    exact View.read_write_univ _ _
  exact h1.symm.trans h2

/-- The run, over any float values. -/
theorem run_values : θ_run defs (onTc (τ := τ) (main (F := F))) (s₀ m ρ) (fun r =>
    (∀ c : Dev nD, r.2.mem ((c : Thread nD τ).loc main_v1) = res m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_out m ρ c), ((h.1 c).1 (0 : Fin 2)).trans (finalA_x m ρ c), (h.1 c).2⟩, h.2⟩)
    (run_main m ρ)

end Cert.KernelIdeal.A2A

end
-- ==== Proof.Value.lean ====
/-
The value: every device's result is its block of columns of the whole product, when numbers are exact.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Layout

@[expose] public section

set_option maxRecDepth 16384

noncomputable section

namespace Cert.KernelIdeal.A2A

open Cert.KernelIdeal Cert.KernelIdeal.Gen
open Idealize.ShloMosaic
open Idealize.ShloMosaic.TcCoe
open Idealize.SL.Sem

/-- The whole product, entry by entry. -/
abbrev SX : Shape := ⟨2, ![4096, 4096]⟩
abbrev SW : Shape := ⟨2, ![4096, 8192]⟩
def whole (X : FVec Ideal SX .f32) (w : FVec Ideal SW .f32) : FVec Ideal SW .f32 := fun j =>
  ∑ k : Fin 4096, X (ix2 (j 0 : Fin 4096) k) * w (ix2 k (j 1 : Fin 8192))

theorem kernel_dot : dot_S512x4096_S4096x256_S512x256_1_0_0_1_n_n = DotDims.plain 512 4096 256 := rfl
theorem reference_dot : Cert.ReferenceIdeal.dot_S4096x4096_S4096x8192_S4096x8192_1_0_0_1_n_n = DotDims.plain 4096 4096 8192 := rfl

theorem reference_whole (X : FVec Ideal SX .f32) (w : FVec Ideal SW .f32) :
    Host.dotGeneral Cert.ReferenceIdeal.dot_S4096x4096_S4096x8192_S4096x8192_1_0_0_1_n_n none X w = whole X w := by
  funext j
  rw [reference_dot, show j = ix2 (j 0 : Fin 4096) (j 1 : Fin 8192) from (ix2_eta (n0 := 4096) (n1 := 8192) j).symm]
  exact StackMember.dotGeneral_plain_apply ..

/-- A tile of the weights at an entry. -/
theorem wt_apply (W : Dev nD → (main_arg1 : Ref sig .tc).ty.Contents (Elt Ideal)) (j : Dev nD) (p : P) (k : Fin 4096) (q : Fin 256)
    (n : Fin 8192) (hn : n.val = (j.val + p.1.val) % 8 * 1024 + 256 * p.2.val + q.val) :
    wt W j p (ix2 k q) = W j (ix2 k n) := by
  unfold wt
  show W j ((wTile wM j p).view.emb (ix2 k q)) = _
  refine congrArg (W j) (Shape.idx_ext₂ ?_ ?_)
  · refine (ValueKit.view_emb_slice_whole_unit_val main_arg1 _ _ _ (ix2 k q) 0).trans ?_
    exact (congrArg (· + k.val) (congrFun (off1_eq j p.1 p.2) 0)).trans (Nat.zero_add _)
  · refine (ValueKit.view_emb_slice_whole_unit_val main_arg1 _ _ _ (ix2 k q) 1).trans ?_
    exact (congrArg (· + q.val) (congrFun (off1_eq j p.1 p.2) 1)).trans hn.symm

theorem tv_apply (x : Dev nD → Vec Ideal S512x4096 .f32) (W : Dev nD → (main_arg1 : Ref sig .tc).ty.Contents (Elt Ideal)) (j : Dev nD) (p : P)
    (r : Fin 512) (q : Fin 256) (n : Fin 8192) (hn : n.val = (j.val + p.1.val) % 8 * 1024 + 256 * p.2.val + q.val) :
    tv x W j p (ix2 r q) = ∑ k : Fin 4096, x j (ix2 r k) * W j (ix2 k n) := by
  unfold tv prodV
  rw [kernel_dot]
  refine (Ideal.matmul_plain_apply ..).trans ?_
  show Ideal.ofBits .f32 0x00000000#32 + _ = _
  rw [Ideal.ofBits_zero_f32, zero_add]
  refine Finset.sum_congr rfl fun k _ => ?_
  show x j (ix2 r k) * wt W j p (ix2 k q) = _
  rw [wt_apply W j p k q n hn]

theorem gap_col (c j : Dev nD) : (j.val + (gap c j).val) % 8 = c.val := by revert c j; decide
theorem gap_self (c : Dev nD) : gap c c = 0 := by revert c; decide

/-- The result of a device at an entry, whoever computed it. -/
theorem outv_eq (x : Dev nD → Vec Ideal S512x4096 .f32) (W : Dev nD → (main_arg1 : Ref sig .tc).ty.Contents (Elt Ideal)) (c : Dev nD)
    (i : S4096x1024.Idx) : outv x W c i = tv x W (oRow i) (gap c (oRow i), oCol i) (oIn i) := by
  unfold outv
  split
  · rename_i h; rw [h, gap_self]
  · rfl

/-- Each device's result is its block of the whole product. -/
theorem outv_block (x : Dev nD → Vec Ideal S512x4096 .f32) (W : Dev nD → (main_arg1 : Ref sig .tc).ty.Contents (Elt Ideal))
    (X : FVec Ideal SX .f32) (w : FVec Ideal SW .f32)
    (hx : ∀ c, x c = Layout.block ⟨2, ![512, 4096]⟩ ⟨2, ![4096, 4096]⟩ 0 8 c X) (hW : ∀ c, W c = w) (c : Dev nD) :
    outv x W c = Layout.block ⟨2, ![4096, 1024]⟩ ⟨2, ![4096, 8192]⟩ 1 8 c (whole X w) := by
  funext i
  have h0 : (i 0).val < 4096 := (i 0).isLt
  have h1 : (i 1).val < 1024 := (i 1).isLt
  have hc : c.val < 8 := c.isLt
  rw [outv_eq, Layout.block_apply]
  unfold oIn
  rw [tv_apply x W _ _ _ _ ⟨c.val * 1024 + (i 1).val, by omega⟩ (by
    rw [gap_col]
    show c.val * 1024 + (i 1).val = c.val * 1024 + 256 * ((i 1).val / 256) + (i 1).val % 256
    omega)]
  unfold whole
  refine Finset.sum_congr rfl fun k _ => ?_
  rw [hx, hW, Layout.block_apply]
  refine congrArg₂ (· * ·) (congrArg X (Shape.idx_ext₂ ?_ ?_)) (congrArg w (Shape.idx_ext₂ ?_ ?_))
  · show (i 0).val / 512 * 512 + (i 0).val % 512 = (i 0).val
    omega
  · rfl
  · rfl
  · rfl

end Cert.KernelIdeal.A2A

end
-- ==== Proof.lean ====
/-
The five claims. The kernel's run is proved once, over any float values; the two frames of the kernel are
that run with its results dropped, and the algebraic claim is its reading at exact numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two programs have the same text: their bodies are equal, -/
theorem bodies_eq : Cert.Kernel.defs₀ (F := Bits) = Cert.KernelIdeal.defs₀ (F := Bits) :=
  congrArg Defs.onTc (funext fun ℓ => funext fun a => match ℓ, a with
    | 0, (_, _) => rfl
    | ⟨_ + 1, h⟩, _ => absurd h (Nat.not_lt.2 (Nat.le_add_left _ _)))
theorem defs_eq : Cert.Kernel.defs (F := Bits) = Cert.KernelIdeal.defs (F := Bits) :=
  congrArg (Pipeline.defs Cert.Kernel.pcfgs) bodies_eq

/-- so the first one's frame is the second one's, at the bits. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => (h.1 c).2, h.2⟩) (Cert.KernelIdeal.A2A.run_values (F := Bits) m ρ)
  rw [defs_eq]
  exact h

theorem frame_kernelIdeal : Cert.quiescent_KernelIdeal := fun m ρ _ =>
  (θ_run Cert.KernelIdeal.defs _ _).mono (fun _ h => ⟨fun c => (h.1 c).2, h.2⟩) (Cert.KernelIdeal.A2A.run_values (F := Ideal) m ρ)

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal := fun m ρ m' ρ' _ hin => by
  refine ⟨Cert.KernelIdeal.A2A.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (Cert.KernelIdeal.A2A.run_values (F := Ideal) m ρ)
    exact Cert.KernelIdeal.A2A.outv_block _ _ _ _ (fun d => (Cert.KernelIdeal.A2A.xin_eq m ρ d).trans (hin d).1) (fun d => (hin d).2) c
  · refine (θ_run Cert.ReferenceIdeal.defs _ _).mono (fun _ h => ⟨(h 0).1.trans ?_, (h 0).2⟩) (Cert.ReferenceIdeal.Value.run (F := Ideal) m' ρ')
    exact Cert.KernelIdeal.A2A.reference_whole _ _

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
